-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x2048x2048 : Shape := ⟨3, ![16, 2048, 2048]⟩
abbrev S262144x4 : Shape := ⟨2, ![262144, 4]⟩
abbrev S262144x1 : Shape := ⟨2, ![262144, 1]⟩
abbrev S262144 : Shape := ⟨1, ![262144]⟩
abbrev S_ : Shape := ⟨0, ![]⟩

class Facts : Prop where
  slices_S262144x4_S262144x1_0_0 : S262144x4.Slices ![0, 0] S262144x1
  shapeCasts_S262144x1_S262144 : S262144x1.ShapeCasts S262144
  slices_S262144x4_S262144x1_0_1 : S262144x4.Slices ![0, 1] S262144x1
  slices_S262144x4_S262144x1_0_2 : S262144x4.Slices ![0, 2] S262144x1
  slices_S262144x4_S262144x1_0_3 : S262144x4.Slices ![0, 3] S262144x1
  bcast_S_S262144 : S_.BroadcastsInDim S262144 (![] : Fin 0 → Fin S262144.rank)
  reducesTo_S262144_S_d0 : S262144.ReducesTo [0] S_
  h_S_ : 0 < S_.numel

variable [Facts]

def fn_part1 {F : FTy → Type} [FloatOps F] (main_v5 : IVec S262144 32) (main_v7 : IVec S262144 32) (main_v18 : IVec S262144 1) (main_c_3 : IVec S_ 32) : IVec S_ 1 :=
  let main_v19 : IVec S262144 32 := broadcastInDim S262144 ![] bcast_S_S262144 main_c_3
  let main_v20 : IVec S262144 1 := cmpi .sge main_v5 main_v19
  let main_v21 : IVec S262144 1 := andi main_v18 main_v20
  let main_c_4 : IVec S_ 32 := constantI S_ 32 2048#32
  let main_v22 : IVec S262144 32 := broadcastInDim S262144 ![] bcast_S_S262144 main_c_4
  let main_v23 : IVec S262144 1 := cmpi .slt main_v5 main_v22
  let main_v24 : IVec S262144 1 := andi main_v21 main_v23
  let main_c_5 : IVec S_ 32 := constantI S_ 32 0#32
  let main_v25 : IVec S262144 32 := broadcastInDim S262144 ![] bcast_S_S262144 main_c_5
  let main_v26 : IVec S262144 1 := cmpi .sge main_v7 main_v25
  let main_v27 : IVec S262144 1 := andi main_v24 main_v26
  let main_c_6 : IVec S_ 32 := constantI S_ 32 2#32
  let main_v28 : IVec S262144 32 := broadcastInDim S262144 ![] bcast_S_S262144 main_c_6
  let main_v29 : IVec S262144 1 := cmpi .slt main_v7 main_v28
  let main_v30 : IVec S262144 1 := andi main_v27 main_v29
  let main_c_7 : IVec S_ 1 := constantI S_ 1 1#1
  let main_v31 : IVec S_ 1 := (fun x v => Host.reduce IntOp.andi x v reducesTo_S262144_S_d0 h_S_) main_v30 main_c_7
  main_v31

def fn {F : FTy → Type} [FloatOps F] (main_arg0 : FVec F S16x2048x2048 .f32) (main_arg1 : IVec S262144x4 32) : IVec S_ 1 :=
  let main_v0 : IVec S262144x1 32 := (extractStridedSlice S262144x1 ![0, 0] · slices_S262144x4_S262144x1_0_0) main_arg1
  let main_v1 : IVec S262144 32 := shapeCast S262144 main_v0 shapeCasts_S262144x1_S262144
  let main_v2 : IVec S262144x1 32 := (extractStridedSlice S262144x1 ![0, 1] · slices_S262144x4_S262144x1_0_1) main_arg1
  let main_v3 : IVec S262144 32 := shapeCast S262144 main_v2 shapeCasts_S262144x1_S262144
  let main_v4 : IVec S262144x1 32 := (extractStridedSlice S262144x1 ![0, 2] · slices_S262144x4_S262144x1_0_2) main_arg1
  let main_v5 : IVec S262144 32 := shapeCast S262144 main_v4 shapeCasts_S262144x1_S262144
  let main_v6 : IVec S262144x1 32 := (extractStridedSlice S262144x1 ![0, 3] · slices_S262144x4_S262144x1_0_3) main_arg1
  let main_v7 : IVec S262144 32 := shapeCast S262144 main_v6 shapeCasts_S262144x1_S262144
  let main_c : IVec S_ 32 := constantI S_ 32 0#32
  let main_v8 : IVec S262144 32 := broadcastInDim S262144 ![] bcast_S_S262144 main_c
  let main_v9 : IVec S262144 1 := cmpi .sge main_v1 main_v8
  let main_c_0 : IVec S_ 32 := constantI S_ 32 2048#32
  let main_v10 : IVec S262144 32 := broadcastInDim S262144 ![] bcast_S_S262144 main_c_0
  let main_v11 : IVec S262144 1 := cmpi .slt main_v1 main_v10
  let main_v12 : IVec S262144 1 := andi main_v9 main_v11
  let main_c_1 : IVec S_ 32 := constantI S_ 32 0#32
  let main_v13 : IVec S262144 32 := broadcastInDim S262144 ![] bcast_S_S262144 main_c_1
  let main_v14 : IVec S262144 1 := cmpi .sge main_v3 main_v13
  let main_v15 : IVec S262144 1 := andi main_v12 main_v14
  let main_c_2 : IVec S_ 32 := constantI S_ 32 16#32
  let main_v16 : IVec S262144 32 := broadcastInDim S262144 ![] bcast_S_S262144 main_c_2
  let main_v17 : IVec S262144 1 := cmpi .slt main_v3 main_v16
  let main_v18 : IVec S262144 1 := andi main_v15 main_v17
  let main_c_3 : IVec S_ 32 := constantI S_ 32 0#32
  fn_part1 (F := F) main_v5 main_v7 main_v18 main_c_3
-- ==== Kernel.lean ====
abbrev S16x2048x2048 : Shape := ⟨3, ![16, 2048, 2048]⟩
abbrev S262144x4 : Shape := ⟨2, ![262144, 4]⟩
abbrev S262144x1 : Shape := ⟨2, ![262144, 1]⟩
abbrev S262144 : Shape := ⟨1, ![262144]⟩
abbrev S_ : Shape := ⟨0, ![]⟩
abbrev S67108864 : Shape := ⟨1, ![67108864]⟩
abbrev S32x16 : Shape := ⟨2, ![32, 16]⟩
abbrev S8192 : Shape := ⟨1, ![8192]⟩
abbrev S16 : Shape := ⟨1, ![16]⟩
abbrev S1x16 : Shape := ⟨2, ![1, 16]⟩
abbrev S1 : Shape := ⟨1, ![1]⟩

abbrev nBuf : Table → Nat
  | .hbm => 37
  | .local .scVector .vmem => 6
  | _ => 0

abbrev bufTy : (tb : Table) → Fin (nBuf tb) → BufTy
  | .hbm, ⟨0, _⟩ => ⟨S16x2048x2048, .f32⟩
  | .hbm, ⟨1, _⟩ => ⟨S262144x4, .i32⟩
  | .hbm, ⟨2, _⟩ => ⟨S262144x1, .i32⟩
  | .hbm, ⟨3, _⟩ => ⟨S262144, .i32⟩
  | .hbm, ⟨4, _⟩ => ⟨S_, .i32⟩
  | .hbm, ⟨5, _⟩ => ⟨S262144, .i32⟩
  | .hbm, ⟨6, _⟩ => ⟨S262144, .i32⟩
  | .hbm, ⟨7, _⟩ => ⟨S262144x1, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144, .i32⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144, .i32⟩
  | .hbm, ⟨21, _⟩ => ⟨S262144, .i32⟩
  | .hbm, ⟨22, _⟩ => ⟨S67108864, .f32⟩
  | .hbm, ⟨23, _⟩ => ⟨S32x16, .f32⟩
  | .hbm, ⟨24, _⟩ => ⟨S32x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .local .scVector .vmem, ⟨0, _⟩ => ⟨S8192, .i32⟩
  | .local .scVector .vmem, ⟨1, _⟩ => ⟨S8192, .i32⟩
  | .local .scVector .vmem, ⟨2, _⟩ => ⟨S8192, .f32⟩
  | .local .scVector .vmem, ⟨3, _⟩ => ⟨S8192, .f32⟩
  | .local .scVector .vmem, ⟨4, _⟩ => ⟨S16, .f32⟩
  | .local .scVector .vmem, ⟨5, _⟩ => ⟨S16, .f32⟩
  | _, _ => ⟨S16x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_cst : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v17_scv : Ref sig .scVector := ⟨.hbm, 22, rfl⟩
abbrev main_v16_scv : Ref sig .scVector := ⟨.hbm, 21, rfl⟩
abbrev main_v18_0_scv : Ref sig .scVector := ⟨.hbm, 23, rfl⟩
abbrev main_v18_1_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32 : BitVec 32 := 16#32
  let v15 : BitVec 32 := Scalar.muli arg13 c16_i32
  let v16 : Index := Scalar.indexCast v15
  ![v16.toNat]
@[reducible] def k0_t2_loop : Scf.Loop 32 :=
  let c0_i32_4 : BitVec 32 := 0#32
  let c512_i32_5 : BitVec 32 := 512#32
  let v7 : BitVec 32 := Scalar.addi c0_i32_4 c512_i32_5
  let c1_i32_6 : BitVec 32 := 1#32
  ⟨c0_i32_4, v7, c1_i32_6⟩
def k0_off3 (k0_t2 : Fin k0_t2_loop.trips) : Fin 1 → Nat :=
  let c0_i32_4 : BitVec 32 := 0#32
  let c1_i32_6 : BitVec 32 := 1#32
  let arg13 : BitVec 32 := Scf.iv c0_i32_4 c1_i32_6 k0_t2
  let c16_i32 : BitVec 32 := 16#32
  let v15 : BitVec 32 := Scalar.muli arg13 c16_i32
  let v16 : Index := Scalar.indexCast v15
  ![v16.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x2048 : Shape := ⟨3, ![16, 2048, 2048]⟩
abbrev S262144x4 : Shape := ⟨2, ![262144, 4]⟩
abbrev S262144x1 : Shape := ⟨2, ![262144, 1]⟩
abbrev S262144 : Shape := ⟨1, ![262144]⟩
abbrev S_ : Shape := ⟨0, ![]⟩
abbrev S262144x3 : Shape := ⟨2, ![262144, 3]⟩
abbrev S1 : Shape := ⟨1, ![1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S262144x4, .i32⟩
  | .hbm, ⟨2, _⟩ => ⟨S262144x1, .i32⟩
  | .hbm, ⟨3, _⟩ => ⟨S262144, .i32⟩
  | .hbm, ⟨4, _⟩ => ⟨S262144x1, .i32⟩
  | .hbm, ⟨5, _⟩ => ⟨S262144, .i32⟩
  | .hbm, ⟨6, _⟩ => ⟨S262144x1, .i32⟩
  | .hbm, ⟨7, _⟩ => ⟨S262144, .i32⟩
  | .hbm, ⟨8, _⟩ => ⟨S262144x1, .i32⟩
  | .hbm, ⟨9, _⟩ => ⟨S262144, .i32⟩
  | .hbm, ⟨10, _⟩ => ⟨S262144, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x1, .i32⟩
  | .hbm, ⟨35, _⟩ => ⟨S262144x3, .i32⟩
  | .hbm, ⟨36, _⟩ => ⟨S262144, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S_, .f32⟩
  | .hbm, ⟨50, _⟩ => ⟨S262144, .f32⟩
  | .hbm, ⟨51, _⟩ => ⟨S262144, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S262144, .f32⟩
  | .hbm, ⟨56, _⟩ => ⟨S262144, .i1⟩
  | .hbm, ⟨57, _⟩ => ⟨S262144, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.Values.lean ====
/-
  What one task of the kernel computes, as functions of the two arrays it reads: the packed labels (`pk`, one word a
  sample) and the table (`tb`, the scores in one row). Task `w` of the thirty-two takes samples `8192 w … 8192 w + 8191`.
  Nothing here speaks of a run: the run (Tile.lean) shows the task leaves these values, and the arithmetic of the claim
  (Sums.lean) reads them.
-/
module

public import proofs.«01_k».proof.Proof.Gen.KernelIdeal
public import proofs.«01_k».proof.Proof.Gen.KernelIdeal.Skeleton
public import Idealize.ShloMosaic.Lib.ValueIdxCore
public import Idealize.ShloMosaic.Lib.Pipeline.Value

@[expose] public section

noncomputable section

namespace Cert.Proof.Loss

open Cert.KernelIdeal Cert.KernelIdeal.Gen
open Idealize.ShloMosaic Idealize.ShloMosaic.ValueIdx

variable {F : FTy → Type} [FloatOps F]

/-- Sixteen consecutive elements from position `16 t`. -/
def row {α : Type} (f : S8192.Idx → α) (t : ℕ) : S16.Idx → α := fun j => f (ix1 (Fin.ofNat 8192 (16 * t + (j 0).val)))

/-- The table position one packed word names, as the kernel's lane computes it: `rel` and `e1` shifted to their places,
    `e2` added. -/
def addrW (p : BitVec 32) : BitVec 32 :=
  IntOp.addi (IntOp.addi (IntOp.shli .vector (IntOp.andi (IntOp.shrsi .vector p 12#32) 15#32) 22#32) (IntOp.shli .vector (IntOp.shrsi .vector p 16#32) 11#32))
    (IntOp.andi (IntOp.shrsi .vector p 1#32) 2047#32)
/-- Twice one packed word's label less one, as the kernel's lane computes it. -/
def sgnI (p : BitVec 32) : BitVec 32 := IntOp.subi (IntOp.muli 2#32 (IntOp.andi p 1#32)) 1#32
/-- … and as a float: the sign of the word's sample. -/
def sgnW (F : FTy → Type) [FloatOps F] (p : BitVec 32) : F .f32 := FloatOps.sitofp .f32 (sgnI p)

/-- Lane by lane, the positions stored are those of the lanes' words … -/
theorem pay2_apply (v : Vec F S16 .i32) (j : S16.Idx) : k0_pay2 (F := F) v j = addrW (v j) := by
  simp only [k0_pay2, k0_pay1, shapeCast_self, addi, shli, andi, shrsi, broadcast, addrW]
/-- … and so are the signs. -/
theorem pay3_apply (v : Vec F S16 .i32) (j : S16.Idx) : k0_pay3 (F := F) v j = sgnW F (v j) := by
  simp only [k0_pay3, k0_pay1, shapeCast_self, subi, muli, andi, sitofp, broadcast, sgnW, sgnI]

variable (pk : S262144.Idx → BitVec 32) (tb : S67108864.Idx → F .f32)

/-- The packed words of task `w`'s samples. -/
def lab (w : ℕ) : S8192.Idx → BitVec 32 := fun x => pk (ix1 (Fin.ofNat 262144 (8192 * w + (x 0).val)))
/-- The table positions task `w` gathers from. -/
def addr (w : ℕ) : S8192.Idx → BitVec 32 := fun x => addrW (lab pk w x)
/-- The signs of task `w`'s samples. -/
def sgn (F : FTy → Type) [FloatOps F] (w : ℕ) : S8192.Idx → F .f32 := fun x => sgnW F (lab pk w x)
/-- The scores task `w` gathers. -/
def got (w : ℕ) : S8192.Idx → F .f32 := fun x => tb (ix1 (Fin.ofNat 67108864 (addr pk w x).toNat))

/-- Task `w`'s two accumulators before trip `t` of its second loop. -/
def accs (w : ℕ) : ℕ → FVec F S16 .f32 × FVec F S16 .f32
  | 0 => (k0_pay4 (F := F), k0_pay4 (F := F))
  | t + 1 => (k0_pay6 (accs w t).1 (row (got pk tb w) t) (row (sgn pk F w) t), k0_pay7 (accs w t).2 (row (sgn pk F w) t))

/-- The first result: row `w` is task `w`'s first accumulator at the end … -/
def outP : S32x16.Idx → F .f32 := fun x => k0_pay8 (accs pk tb (x 0).val 512).1 (ix1 (x 1))
/-- … and the second result's row `w` its second accumulator. -/
def outN : S32x16.Idx → F .f32 := fun x => k0_pay9 (accs pk tb (x 0).val 512).2 (ix1 (x 1))

end Cert.Proof.Loss

end
-- ==== Proof.Setup.lean ====
/-
  The launch of the kernel's one call: the program as the launch theorem sees it, the memory its tasks share, and what the
  handshakes carry. Thirty-two tasks run at once, task `w = 2 s + c` on tile `s` of SparseCore `c`. Every task reads the
  packed labels and the table at its own share of them, and owns row `w` of each of the two results.
-/
module

public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.Loss

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

/-- The packed labels, the table, the two results, on device `d`. -/
abbrev kLoc (d : Dev nD) : Loc nD τ sig := (SparseCore.T d).loc main_v16
abbrev tLoc (d : Dev nD) : Loc nD τ sig := (SparseCore.T d).loc main_v17
abbrev aLoc (d : Dev nD) : Loc nD τ sig := (SparseCore.T d).loc main_v18_0
abbrev bLoc (d : Dev nD) : Loc nD τ sig := (SparseCore.T d).loc main_v18_1

local notation "kV" => (Memref.whole Cert.KernelIdeal.main_v16_scv : Memref Cert.KernelIdeal.sig Kind.scVector Space.hbm Cert.KernelIdeal.S262144 EltTy.i32)
local notation "tV" => (Memref.whole Cert.KernelIdeal.main_v17_scv : Memref Cert.KernelIdeal.sig Kind.scVector Space.hbm Cert.KernelIdeal.S67108864 EltTy.f32)
local notation "aV" => (Memref.whole Cert.KernelIdeal.main_v18_0_scv : Memref Cert.KernelIdeal.sig Kind.scVector Space.hbm Cert.KernelIdeal.S32x16 EltTy.f32)
local notation "bV" => (Memref.whole Cert.KernelIdeal.main_v18_1_scv : Memref Cert.KernelIdeal.sig Kind.scVector Space.hbm Cert.KernelIdeal.S32x16 EltTy.f32)

theorem odiv : 32 ∣ S32x16.size 0 := ⟨1, rfl⟩
/-- Row `w` of a result. -/
abbrev orow (w : Fin 32) : Rect S32x16 := Rect.part (s := S32x16) (a₀ := 0) odiv w
abbrev aRowSet (w : Fin 32) : Finset S32x16.Idx := ((aV).view.slice (orow w)).set
abbrev bRowSet (w : Fin 32) : Finset S32x16.Idx := ((bV).view.slice (orow w)).set

/-- The task on tile `s` of SparseCore `c` is number `2 s + c`. -/
def wid (c : Fin 2) (s : Fin 16) : Fin 32 := ⟨2 * s.val + c.val, by omega⟩

/-- Task `w`'s share of what every task reads: the full share halved five times. -/
abbrev shr (w : Fin 32) : PosShare TreeShare := ShareLeaves.leaf 5 fullShare w

variable [FloatOps F]

/-! ## What the handshakes carry -/

variable (pk : Dev nD → S262144.Idx → BitVec 32) (tb : Dev nD → S67108864.Idx → F .f32)

abbrev kShPts (d : Dev nD) (w : Fin 32) : sProp 𝕄 := kLoc d ↦{shr w} (pk d : Buf (Elt F) (kLoc d))
abbrev tShPts (d : Dev nD) (w : Fin 32) : sProp 𝕄 := tLoc d ↦{shr w} (tb d : Buf (Elt F) (tLoc d))
abbrev aRowPts (d : Dev nD) (w : Fin 32) (f : Buf (Elt F) (aLoc d)) : sProp 𝕄 := aLoc d ↦[aRowSet w]{fullShare} f
abbrev bRowPts (d : Dev nD) (w : Fin 32) (f : Buf (Elt F) (bLoc d)) : sProp 𝕄 := bLoc d ↦[bRowSet w]{fullShare} f

/-- What task `w` is handed: its shares of the two arrays it reads, its row of each result, whatever they hold. -/
abbrev goPts (d : Dev nD) (w : Fin 32) : sProp 𝕄 :=
  iprop(kShPts pk d w ∗ tShPts tb d w ∗ (∃ f, aRowPts d w f) ∗ ∃ f, bRowPts d w f)
/-- What it brings back: the same, its rows holding the rows of the two results. -/
abbrev tdPts (d : Dev nD) (w : Fin 32) : sProp 𝕄 :=
  iprop(kShPts pk d w ∗ tShPts tb d w ∗ aRowPts d w (outP (pk d) (tb d)) ∗ bRowPts d w (outN (pk d) (tb d)))

/-- The one call takes and gives each SparseCore what its sixteen tasks take and give. -/
def P : (K (F := F)).Pay (nD := nD) (Val := Elt F) (Name := ℕ) (U := UU) where
  st := fun q d c => match q with
    | 0 => bigSep Finset.univ fun i : Fin 16 => goPts pk tb d (wid (Fin.cast nCore_zero c) i)
  dn := fun q d c => match q with
    | 0 => bigSep Finset.univ fun i : Fin 16 => tdPts pk tb d (wid (Fin.cast nCore_zero c) i)
  go := fun q d c i => match q with | 0 => goPts pk tb d (wid (Fin.cast nCore_zero c) (Fin.cast nSub_zero i))
  td := fun q d c i => match q with | 0 => tdPts pk tb d (wid (Fin.cast nCore_zero c) (Fin.cast nSub_zero i))
  x := fun _ _ => iprop(emp)

instance P_storable : (P (F := F) pk tb).IsStorable where
  st q d c := match q with
    | 0 => (inferInstance : BI.Storable (upEmb : UEmb _ 𝕄) (bigSep Finset.univ fun i : Fin 16 => goPts pk tb d (wid (Fin.cast nCore_zero c) i)))
  dn q d c := match q with
    | 0 => (inferInstance : BI.Storable (upEmb : UEmb _ 𝕄) (bigSep Finset.univ fun i : Fin 16 => tdPts pk tb d (wid (Fin.cast nCore_zero c) i)))
  go q d c i := match q with
    | 0 => (inferInstance : BI.Storable (upEmb : UEmb _ 𝕄) (goPts pk tb d (wid (Fin.cast nCore_zero c) (Fin.cast nSub_zero i))))
  td q d c i := match q with
    | 0 => (inferInstance : BI.Storable (upEmb : UEmb _ 𝕄) (tdPts pk tb d (wid (Fin.cast nCore_zero c) (Fin.cast nSub_zero i))))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tasks', and its results theirs. -/
theorem vecSplit : (K (F := F)).VecSplit' (P pk tb) 0 := by
  intro d c
  show (bigSep Finset.univ fun i : Fin 16 => goPts pk tb d (wid (Fin.cast nCore_zero c) i)) ⊢ |={Set.univ}=> iprop(
      (bigSep Finset.univ fun i : Fin ((K (F := F)).nSub 0) => goPts pk tb d (wid (Fin.cast nCore_zero c) (Fin.cast nSub_zero i)))
      ∗ ((bigSep Finset.univ fun i : Fin ((K (F := F)).nSub 0) => tdPts pk tb d (wid (Fin.cast nCore_zero c) (Fin.cast nSub_zero i)))
          -∗ bigSep Finset.univ fun i : Fin 16 => tdPts pk tb d (wid (Fin.cast nCore_zero c) i)))
  rw [bigSep_tasks (F := F) (fun i => goPts pk tb d (wid (Fin.cast nCore_zero c) i)),
    bigSep_tasks (F := F) (fun i => tdPts pk tb d (wid (Fin.cast nCore_zero c) i))]
  iintro H; imodintro
  isplitl [H]; · iexact H
  iintro H; iexact H

end Cert.Proof.Loss

end
-- ==== Proof.Windows.lean ====
/-
  One task's tile: its number, the windows of the arrays it copies from and to, the semaphores and scratch it names.
-/
module

public import proofs.«01_k».proof.Proof.Setup

@[expose] public section

noncomputable section

namespace Cert.Proof.Loss

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "kV" => (Memref.whole Cert.KernelIdeal.main_v16_scv : Memref Cert.KernelIdeal.sig Kind.scVector Space.hbm Cert.KernelIdeal.S262144 EltTy.i32)
local notation "tV" => (Memref.whole Cert.KernelIdeal.main_v17_scv : Memref Cert.KernelIdeal.sig Kind.scVector Space.hbm Cert.KernelIdeal.S67108864 EltTy.f32)
local notation "aV" => (Memref.whole Cert.KernelIdeal.main_v18_0_scv : Memref Cert.KernelIdeal.sig Kind.scVector Space.hbm Cert.KernelIdeal.S32x16 EltTy.f32)
local notation "bV" => (Memref.whole Cert.KernelIdeal.main_v18_1_scv : Memref Cert.KernelIdeal.sig Kind.scVector Space.hbm Cert.KernelIdeal.S32x16 EltTy.f32)
local notation "s0V" => (Memref.whole Cert.KernelIdeal.cc0_scratch0 : Memref Cert.KernelIdeal.sig Kind.scVector Space.vmem Cert.KernelIdeal.S8192 EltTy.i32)
local notation "s1V" => (Memref.whole Cert.KernelIdeal.cc0_scratch1 : Memref Cert.KernelIdeal.sig Kind.scVector Space.vmem Cert.KernelIdeal.S8192 EltTy.i32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S8192 EltTy.f32)
local notation "s4V" => (Memref.whole Cert.KernelIdeal.cc0_scratch4 : Memref Cert.KernelIdeal.sig Kind.scVector Space.vmem Cert.KernelIdeal.S16 EltTy.f32)
local notation "s5V" => (Memref.whole Cert.KernelIdeal.cc0_scratch5 : Memref Cert.KernelIdeal.sig Kind.scVector Space.vmem Cert.KernelIdeal.S16 EltTy.f32)

variable (d : Dev nD) (L : grid0.Coords)

/-! ## The task's tile, its number, its windows -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number. -/
abbrev wL (L : grid0.Coords) : Fin 32 := wid (Fin.cast bound_zero (L 0)) (Fin.cast bound_one (L 1))

abbrev krectK (L : grid0.Coords) : Rect S262144 := Rect.unit (s := S262144) (k0_off1 L) S8192.size (k0_off1_inb L)
abbrev orowK (L : grid0.Coords) : Rect S32x16 := Rect.unit (s := S32x16) (k0_off4 L) S1x16.size (k0_off4_inb L)
/-- The task's samples of the packed labels, and its row of each result, as the task addresses them. -/
abbrev kRowK (L : grid0.Coords) : Memref sig .scVector .hbm S8192 .i32 := (kV).slice (krectK L) (fun _ => rfl)
abbrev aRowK (L : grid0.Coords) : Memref sig .scVector .hbm S16 .f32 := ((aV).slice (orowK L) (fun _ => rfl)).squeeze S16 squeezes_S1x16_S16
abbrev bRowK (L : grid0.Coords) : Memref sig .scVector .hbm S16 .f32 := ((bV).slice (orowK L) (fun _ => rfl)).squeeze S16 squeezes_S1x16_S16
/-- All of the table, as the gather names it. -/
abbrev tAllK : Memref sig .scVector .hbm S67108864 .f32 := (tV).slice (Rect.unit (s := S67108864) ![0] S67108864.size inb_S67108864_S67108864_0) (fun _ => rfl)

theorem orowK_eq : orowK L = orow (wL L) := by
  unfold orowK orow Rect.part Rect.block
  congr 1 <;> funext a
  · rw [k0_off4_eq]
    match a with
    | 0 => simp [Shape.partIx, Shape.partSize, wid]; rfl
    | 1 => simp [Shape.partIx, Shape.partSize]
  · match a with
    | 0 => simp [Shape.partSize]
    | 1 => simp [Shape.partSize]

theorem set_aRowK : (aRowK L).view.set = aRowSet (wL L) := by
  show (((aV).view.slice (orowK L)).reshape S16 squeezes_S1x16_S16.numel_eq).set = ((aV).view.slice (orow (wL L))).set
  rw [View.set_reshape]
  exact orowK_eq L ▸ rfl
theorem set_bRowK : (bRowK L).view.set = bRowSet (wL L) := by
  show (((bV).view.slice (orowK L)).reshape S16 squeezes_S1x16_S16.numel_eq).set = ((bV).view.slice (orow (wL L))).set
  rw [View.set_reshape]
  exact orowK_eq L ▸ rfl

theorem pts_aRowK (f : Buf (Elt F) (aLoc d)) :
    ((aRowK L).view.loc (V d (cV L) (jV L)) ↦[(aRowK L).view.set]{fullShare} f : sProp 𝕄) = aLoc d ↦[aRowSet (wL L)]{fullShare} f := by
  rw [set_aRowK]
theorem pts_bRowK (f : Buf (Elt F) (bLoc d)) :
    ((bRowK L).view.loc (V d (cV L) (jV L)) ↦[(bRowK L).view.set]{fullShare} f : sProp 𝕄) = bLoc d ↦[bRowSet (wL L)]{fullShare} f := by
  rw [set_bRowK]
theorem pts_kV (q : PosShare TreeShare) (f : Buf (Elt F) (kLoc d)) :
    ((kV).view.loc (V d (cV L) (jV L)) ↦{q} f : sProp 𝕄) = kLoc d ↦{q} f := rfl
theorem pts_tV (q : PosShare TreeShare) (f : Buf (Elt F) (tLoc d)) :
    ((tV).view.loc (V d (cV L) (jV L)) ↦{q} f : sProp 𝕄) = tLoc d ↦{q} f := rfl

/-! ## The tile's semaphores and scratch -/

abbrev cellG (d : Dev nD) (c : Fin τ.nSC) (i : Fin τ.nSub) : GSem nD τ sig := (V d c i, .dma cc0_scratch6.sem)
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scoped1.sem)
abbrev cellC (d : Dev nD) (c : Fin τ.nSC) (i : Fin τ.nSub) : GSem nD τ sig := (V d c i, .dma cc0_scoped2.sem)

/-- The tile's semaphores beyond the four the task names. -/
abbrev restSems : Finset (GSem nD τ sig) :=
  ((((ownCells (V d (cV L) (jV L))).erase (cellG d (cV L) (jV L))).erase (cellA d (cV L) (jV L))).erase (cellB d (cV L) (jV L))).erase (cellC d (cV L) (jV L))

theorem ownSems0_V :
    (ownSems0 (V d (cV L) (jV L)) : sProp 𝕄)
      = iprop(semVal (cellG d (cV L) (jV L)) 0 ∗ semVal (cellA d (cV L) (jV L)) 0 ∗ semVal (cellB d (cV L) (jV L)) 0 ∗ semVal (cellC d (cV L) (jV L)) 0
          ∗ bigSep (restSems d L) fun g => semVal g 0) := by
  have mem : ∀ s : SemLoc sig, s.isScoped .scVector = true → ((V d (cV L) (jV L), s) : GSem nD τ sig) ∈ ownCells (V d (cV L) (jV L)) :=
    fun s h => mem_ownCells.mpr ⟨rfl, h⟩
  have ne : ∀ s s' : SemLoc sig, s ≠ s' → ((V d (cV L) (jV L), s) : GSem nD τ sig) ≠ (V d (cV L) (jV L), s') :=
    fun s s' h e => h (congrArg Prod.snd e)
  unfold SparseCore.Cfg.ownSems0
  rw [SparseCore.bigSep_erase' (mem (.dma cc0_scratch6.sem) (by decide)),
    SparseCore.bigSep_erase' (Finset.mem_erase.mpr ⟨ne (.dma cc0_scoped0.sem) _ (by decide), mem (.dma cc0_scoped0.sem) (by decide)⟩),
    SparseCore.bigSep_erase' (Finset.mem_erase.mpr ⟨ne (.dma cc0_scoped1.sem) _ (by decide),
      Finset.mem_erase.mpr ⟨ne (.dma cc0_scoped1.sem) _ (by decide), mem (.dma cc0_scoped1.sem) (by decide)⟩⟩),
    SparseCore.bigSep_erase' (Finset.mem_erase.mpr ⟨ne (.dma cc0_scoped2.sem) _ (by decide),
      Finset.mem_erase.mpr ⟨ne (.dma cc0_scoped2.sem) _ (by decide),
        Finset.mem_erase.mpr ⟨ne (.dma cc0_scoped2.sem) _ (by decide), mem (.dma cc0_scoped2.sem) (by decide)⟩⟩⟩)]

/-- A scratch buffer of the tile, at some contents. -/
abbrev anyAt (b : Ref sig .scVector) : sProp 𝕄 := iprop(∃ f, (V d (cV L) (jV L)).loc b ↦{fullShare} f)

/-- The tile's buffers beyond the six the task names. -/
abbrev restRefs : Finset (DevRef τ sig) :=
  ((((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)).erase
    ((Proc.scVector (cV L) (jV L)).devRef cc0_scratch5)

theorem ownBufs_V :
    (ownBufs (V d (cV L) (jV L)) : sProp 𝕄)
      = iprop(anyAt d L cc0_scratch0 ∗ anyAt d L cc0_scratch1 ∗ anyAt d L cc0_scratch2 ∗ anyAt d L cc0_scratch3 ∗ anyAt d L cc0_scratch4
          ∗ anyAt d L cc0_scratch5 ∗ bigSep (restRefs L) fun b => iprop(∃ f, ((d, b) : Loc nD τ sig) ↦{fullShare} f)) := by
  have mem : ∀ b : Ref sig .scVector, ((Proc.scVector (cV L) (jV L)).devRef b).owner = Owner.proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun b b' h e => h (Proc.devRef_injective _ e)
  have er : ∀ (s : Finset (DevRef τ sig)) (b b' : Ref sig .scVector), b ≠ b' → (Proc.scVector (cV L) (jV L)).devRef b ∈ s →
      (Proc.scVector (cV L) (jV L)).devRef b ∈ s.erase ((Proc.scVector (cV L) (jV L)).devRef b') :=
    fun s b b' h hm => Finset.mem_erase.mpr ⟨ne b b' h, hm⟩
  unfold SparseCore.Cfg.ownBufs
  refine (SparseCore.bigSep_erase' (mem cc0_scratch0 rfl)).trans ?_
  rw [SparseCore.bigSep_erase' (er _ cc0_scratch1 cc0_scratch0 (by decide) (mem cc0_scratch1 rfl)),
    SparseCore.bigSep_erase' (er _ cc0_scratch2 cc0_scratch1 (by decide) (er _ _ cc0_scratch0 (by decide) (mem cc0_scratch2 rfl))),
    SparseCore.bigSep_erase' (er _ cc0_scratch3 cc0_scratch2 (by decide) (er _ _ cc0_scratch1 (by decide) (er _ _ cc0_scratch0 (by decide) (mem cc0_scratch3 rfl)))),
    SparseCore.bigSep_erase' (er _ cc0_scratch4 cc0_scratch3 (by decide) (er _ _ cc0_scratch2 (by decide) (er _ _ cc0_scratch1 (by decide)
      (er _ _ cc0_scratch0 (by decide) (mem cc0_scratch4 rfl))))),
    SparseCore.bigSep_erase' (er _ cc0_scratch5 cc0_scratch4 (by decide) (er _ _ cc0_scratch3 (by decide) (er _ _ cc0_scratch2 (by decide) (er _ _ cc0_scratch1 (by decide)
      (er _ _ cc0_scratch0 (by decide) (mem cc0_scratch5 rfl))))))]

end Cert.Proof.Loss

end
-- ==== Proof.Landed.lean ====
/-
  What a task's copies, loads and stores do to the values: each of its windows read and written, element by element, in the
  terms of Values.lean.
-/
module

public import proofs.«01_k».proof.Proof.Windows

@[expose] public section

noncomputable section

namespace Cert.Proof.Loss

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "kV" => (Memref.whole Cert.KernelIdeal.main_v16_scv : Memref Cert.KernelIdeal.sig Kind.scVector Space.hbm Cert.KernelIdeal.S262144 EltTy.i32)
local notation "tV" => (Memref.whole Cert.KernelIdeal.main_v17_scv : Memref Cert.KernelIdeal.sig Kind.scVector Space.hbm Cert.KernelIdeal.S67108864 EltTy.f32)
local notation "aV" => (Memref.whole Cert.KernelIdeal.main_v18_0_scv : Memref Cert.KernelIdeal.sig Kind.scVector Space.hbm Cert.KernelIdeal.S32x16 EltTy.f32)
local notation "bV" => (Memref.whole Cert.KernelIdeal.main_v18_1_scv : Memref Cert.KernelIdeal.sig Kind.scVector Space.hbm Cert.KernelIdeal.S32x16 EltTy.f32)
local notation "s0V" => (Memref.whole Cert.KernelIdeal.cc0_scratch0 : Memref Cert.KernelIdeal.sig Kind.scVector Space.vmem Cert.KernelIdeal.S8192 EltTy.i32)
local notation "s1V" => (Memref.whole Cert.KernelIdeal.cc0_scratch1 : Memref Cert.KernelIdeal.sig Kind.scVector Space.vmem Cert.KernelIdeal.S8192 EltTy.i32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S8192 EltTy.f32)
local notation "s4V" => (Memref.whole Cert.KernelIdeal.cc0_scratch4 : Memref Cert.KernelIdeal.sig Kind.scVector Space.vmem Cert.KernelIdeal.S16 EltTy.f32)
local notation "s5V" => (Memref.whole Cert.KernelIdeal.cc0_scratch5 : Memref Cert.KernelIdeal.sig Kind.scVector Space.vmem Cert.KernelIdeal.S16 EltTy.f32)

variable [FloatOps F]
variable (pk : Dev nD → S262144.Idx → BitVec 32) (tb : Dev nD → S67108864.Idx → F .f32)
variable (d : Dev nD) (L : grid0.Coords)

/-- The tile's thread. -/
abbrev thr : Thread nD τ := V d (cV L) (jV L)

/-- Both loops take 512 trips. -/
theorem trips1 : k0_t1_loop.trips = 512 := by decide +kernel
theorem trips2 : k0_t2_loop.trips = 512 := by decide +kernel

/-- Lane `j` of the sixteen at `16 t` is element `16 t + j`. -/
theorem unit_emb {off : Fin 1 → ℕ} {t : ℕ} (ht : t < 512) (ho : off = ![16 * t]) (inb : ∀ a, off a + S16.size a ≤ S8192.size a) (j : S16.Idx) :
    (Rect.unit (s := S8192) off S16.size inb).emb j = ix1 (Fin.ofNat 8192 (16 * t + (j 0).val)) := by
  subst ho
  refine funext fun a => Fin.ext ?_
  obtain rfl : a = 0 := Subsingleton.elim a 0
  have hj : (j 0).val < 16 := (j 0).isLt
  show 16 * t + 1 * (j 0).val = (16 * t + (j 0).val) % 8192
  rw [Nat.mod_eq_of_lt (by omega), one_mul]

/-- A load of sixteen lanes at `16 t` reads them. -/
theorem load_row (b : Ref sig .scVector) {e : EltTy} (m : Memref sig .scVector .vmem S8192 e) (f : m.view.ty.Contents (Elt F))
    {off : Fin 1 → ℕ} {t : ℕ} (ht : t < 512) (ho : off = ![16 * t]) (inb : ∀ a, off a + S16.size a ≤ S8192.size a) :
    m.view.readAt (Elt F) (Rect.unit (s := S8192) off S16.size inb).toLoadRect f = row (m.view.read (Elt F) f) t := by
  funext j
  exact congrArg (m.view.read (Elt F) f) (unit_emb ht ho inb j)

/-- A store of sixteen lanes at `16 t` extends what is already right by sixteen elements. -/
theorem store_row {e : EltTy} (v : View sig .scVector .vmem S8192 e) (g : v.ty.Contents (Elt F)) (G : S8192.Idx → Elt F e)
    {off : Fin 1 → ℕ} {t : ℕ} (ht : t < 512) (ho : off = ![16 * t]) (inb : ∀ a, off a + S16.size a ≤ S8192.size a)
    (w : S16.Idx → Elt F e) (hw : w = row G t) (hg : ∀ x : S8192.Idx, (x 0).val < 16 * t → v.read (Elt F) g x = G x) :
    ∀ x : S8192.Idx, (x 0).val < 16 * (t + 1) → v.read (Elt F) (v.writes (Elt F) g [⟨Rect.unit (s := S8192) off S16.size inb, w⟩]) x = G x := by
  subst hw
  intro x hx
  by_cases h : (x 0).val < 16 * t
  · rw [View.read_writes_apply_of_forall_not_mem]
    · exact hg x h
    · intro p hp hm
      obtain rfl := List.mem_singleton.mp hp
      obtain ⟨j, hj'⟩ := LoadRect.exists_idx_of_mem _ hm
      obtain rfl : (Rect.unit (s := S8192) off S16.size inb).emb j = x := hj'
      rw [unit_emb ht ho inb j] at h
      have hj : (j 0).val < 16 := (j 0).isLt
      have e : (16 * t + (j 0).val) % 8192 < 16 * t := h
      rw [Nat.mod_eq_of_lt (by omega)] at e
      omega
  · refine View.read_writes_apply_of_pieces _ _ G _ ?_ x ?_
    · intro p hp j
      obtain rfl := List.mem_singleton.mp hp
      show row G t j = G ((Rect.unit (s := S8192) off S16.size inb).emb j)
      rw [unit_emb ht ho inb j]; rfl
    · refine ⟨_, List.mem_singleton_self _, ?_⟩
      have hx' : (x 0).val - 16 * t < 16 := by omega
      have e : (Rect.unit (s := S8192) off S16.size inb).emb (ix1 ⟨(x 0).val - 16 * t, hx'⟩) = x := by
        rw [unit_emb ht ho inb]
        refine funext fun a => Fin.ext ?_
        obtain rfl : a = 0 := Subsingleton.elim a 0
        have hb : (x 0).val < 8192 := (x 0).isLt
        show (16 * t + ((x 0).val - 16 * t)) % 8192 = (x 0).val
        rw [Nat.mod_eq_of_lt (by omega)]; omega
      show x ∈ (Rect.unit (s := S8192) off S16.size inb).set
      rw [← e]
      exact Rect.map_emb_univ _ ▸ Finset.mem_map_of_mem _ (Finset.mem_univ _)

/-- What a whole window was written reads back at each of its elements. -/
theorem writes_whole_emb {κ : Kind} {sp : Space} {s : Shape} {e : EltTy} (v : View sig κ sp s e) (f : v.ty.Contents (Elt F)) (p : s.Idx → Elt F e) (x : s.Idx) :
    _root_.cast (congrArg (Elt F) v.elt_eq) (v.writes (Elt F) f [⟨Rect.whole s, p⟩] (v.emb x)) = p x := by
  have h := View.read_writes_cons_emb v f (Rect.whole s) p [] x
  rwa [Rect.emb_whole_apply] at h

/-- Sixteen lanes' positions, stored from their words … -/
theorem pay2_row (w t : ℕ) : k0_pay2 (F := F) (row (lab (pk d) w) t) = row (addr (pk d) w) t :=
  funext fun j => pay2_apply _ j
/-- … and their signs. -/
theorem pay3_row (w t : ℕ) : k0_pay3 (F := F) (row (lab (pk d) w) t) = row (sgn (pk d) F w) t :=
  funext fun j => pay3_apply _ j

/-- What the in-copy lands is the task's packed words. -/
theorem landed_lab (fs : Buf (Elt F) ((s0V).view.loc (thr d L))) (pay : S8192.Idx → Elt F .i32)
    (hpay : pay = (kRowK L).view.read (Elt F) (pk d : Buf (Elt F) (kLoc d))) :
    View.write (Elt F) (s0V).view fs pay Finset.univ = lab (pk d) (wL L).val := by
  subst hpay
  rw [View.write_whole_univ]
  funext x
  show pk d ((krectK L).emb x) = pk d (ix1 (Fin.ofNat 262144 (8192 * (wL L).val + (x 0).val)))
  refine congrArg (pk d) (funext fun a => Fin.ext ?_)
  obtain rfl : a = 0 := Subsingleton.elim a 0
  have h0 : (L 0).val < 2 := (L 0).isLt
  have h1 : (L 1).val < 16 := (L 1).isLt
  have hx : (x 0).val < 8192 := (x 0).isLt
  show k0_off1 L 0 + 1 * (x 0).val = (8192 * (2 * (L 1).val + (L 0).val) + (x 0).val) % 262144
  rw [k0_off1_eq, Nat.mod_eq_of_lt (by omega)]
  show 16384 * (L 1).val + 8192 * (L 0).val + 1 * (x 0).val = _
  omega

/-- What the gather lands are the task's scores. -/
theorem landed_got (hin : ∀ x, ((s1V).view.read (Elt F) (addr (pk d) (wL L).val : Buf (Elt F) ((s1V).view.loc (thr d L))) x).toNat
      < S67108864.size gathers_S67108864_S8192.axis) (pay : S8192.Idx → Elt F .f32)
    (hpay : pay = SparseCore.gatherPayload gathers_S67108864_S8192 ((tAllK).view.read (Elt F) (tb d : Buf (Elt F) (tLoc d)))
      (SparseCore.rows ((s1V).view.read (Elt F) (addr (pk d) (wL L).val : Buf (Elt F) ((s1V).view.loc (thr d L)))) rfl hin)) :
    (s3V).view.writes (Elt F) (s3V).view.junk [⟨Rect.whole S8192, pay⟩] = got (pk d) (tb d) (wL L).val := by
  subst hpay
  funext x
  refine ((cast_eq rfl _).symm.trans (writes_whole_emb (F := F) (s3V).view (s3V).view.junk _ x)).trans ?_
  have hx : (S8192.rowMajor.symm ((x 0).cast rfl : Fin S8192.numel)) = x := by
    rw [Equiv.symm_apply_eq]
    exact Fin.ext (Shape.rowMajor_val_one x).symm
  have hr : ((gathers_S67108864_S8192.idx (SparseCore.rows ((s1V).view.read (Elt F) (addr (pk d) (wL L).val : Buf (Elt F) ((s1V).view.loc (thr d L)))) rfl hin) x) 0).val
      = (addr (pk d) (wL L).val x).toNat := by
    refine (congrArg Fin.val (Shape.Gathers.idx_axis gathers_S67108864_S8192 _ x)).trans ?_
    exact congrArg (fun y => (addr (pk d) (wL L).val y).toNat) hx
  have hlt : (addr (pk d) (wL L).val x).toNat < 67108864 := hin x
  show tb d ((Rect.unit (s := S67108864) ![0] S67108864.size inb_S67108864_S67108864_0).emb (gathers_S67108864_S8192.idx _ x))
    = tb d (ix1 (Fin.ofNat 67108864 (addr (pk d) (wL L).val x).toNat))
  refine congrArg (tb d) (funext fun a => Fin.ext ?_)
  obtain rfl : a = 0 := Subsingleton.elim a 0
  show 0 + 1 * ((gathers_S67108864_S8192.idx _ x) 0).val = (addr (pk d) (wL L).val x).toNat % 67108864
  rw [Nat.mod_eq_of_lt hlt, hr]; omega

/-- Row `w` of a result, as the task addresses it: lane `j` is column `j`. -/
theorem orow_emb (j : S16.Idx) :
    (orowK L).emb (Shape.reshapeEquiv squeezes_S1x16_S16.numel_eq j) = ix2 (wL L) (j 0) := by
  have e : Shape.reshapeEquiv squeezes_S1x16_S16.numel_eq j = (ix2 (0 : Fin 1) (j 0) : S1x16.Idx) := by
    refine Shape.reshapeEquiv_eq_of_rowMajor _ ?_
    rw [Shape.rowMajor_val_one, Shape.rowMajor_val_two]
    show 0 * 16 + (j 0).val = (j 0).val
    omega
  rw [e]
  refine funext fun a => Fin.ext ?_
  match a with
  | 0 =>
    show k0_off4 L 0 + 1 * 0 = 2 * (L 1).val + (L 0).val
    rw [k0_off4_eq]; rfl
  | 1 =>
    show k0_off4 L 1 + 1 * (j 0).val = (j 0).val
    rw [k0_off4_eq]
    show 0 + 1 * (j 0).val = (j 0).val
    omega

/-- The first result's row, copied out, holds the named row of it … -/
theorem landed_outP (fa : Buf (Elt F) (aLoc d)) (p : S16.Idx → Elt F .f32) (acc : FVec F S16 .f32 × FVec F S16 .f32)
    (hacc : acc = accs (pk d) (tb d) (wL L).val 512) (hp : p = k0_pay8 acc.1) :
    ∀ i ∈ (aRowK L).view.set, (aRowK L).view.writes (Elt F) fa [⟨Rect.whole S16, p⟩] i = outP (pk d) (tb d) i := by
  subst hacc hp
  intro i hi
  obtain ⟨j, -, rfl⟩ := Finset.mem_map.mp hi
  refine ((cast_eq rfl _).symm.trans (writes_whole_emb (F := F) (aRowK L).view fa _ j)).trans ?_
  show _ = outP (pk d) (tb d) ((orowK L).emb (Shape.reshapeEquiv squeezes_S1x16_S16.numel_eq j))
  rw [orow_emb, eq_ix1 j]; rfl
/-- … and so the second's. -/
theorem landed_outN (fb : Buf (Elt F) (bLoc d)) (p : S16.Idx → Elt F .f32) (acc : FVec F S16 .f32 × FVec F S16 .f32)
    (hacc : acc = accs (pk d) (tb d) (wL L).val 512) (hp : p = k0_pay9 acc.2) :
    ∀ i ∈ (bRowK L).view.set, (bRowK L).view.writes (Elt F) fb [⟨Rect.whole S16, p⟩] i = outN (pk d) (tb d) i := by
  subst hacc hp
  intro i hi
  obtain ⟨j, -, rfl⟩ := Finset.mem_map.mp hi
  refine ((cast_eq rfl _).symm.trans (writes_whole_emb (F := F) (bRowK L).view fb _ j)).trans ?_
  show _ = outN (pk d) (tb d) ((orowK L).emb (Shape.reshapeEquiv squeezes_S1x16_S16.numel_eq j))
  rw [orow_emb, eq_ix1 j]; rfl

end Cert.Proof.Loss

end
-- ==== Proof.Tile.lean ====
/-
  One task of the kernel, run once at a symbolic tile: its labels copied in, the loop that unpacks them, the gather of
  its scores, the loop that adds them up, its two rows copied out. The loops' invariants carry the values.
-/
module

public import proofs.«01_k».proof.Proof.Landed
public import Idealize.ShloMosaic.Lib.VecWindow

@[expose] public section

noncomputable section

namespace Cert.Proof.Loss

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "kV" => (Memref.whole Cert.KernelIdeal.main_v16_scv : Memref Cert.KernelIdeal.sig Kind.scVector Space.hbm Cert.KernelIdeal.S262144 EltTy.i32)
local notation "tV" => (Memref.whole Cert.KernelIdeal.main_v17_scv : Memref Cert.KernelIdeal.sig Kind.scVector Space.hbm Cert.KernelIdeal.S67108864 EltTy.f32)
local notation "aV" => (Memref.whole Cert.KernelIdeal.main_v18_0_scv : Memref Cert.KernelIdeal.sig Kind.scVector Space.hbm Cert.KernelIdeal.S32x16 EltTy.f32)
local notation "bV" => (Memref.whole Cert.KernelIdeal.main_v18_1_scv : Memref Cert.KernelIdeal.sig Kind.scVector Space.hbm Cert.KernelIdeal.S32x16 EltTy.f32)
local notation "s0V" => (Memref.whole Cert.KernelIdeal.cc0_scratch0 : Memref Cert.KernelIdeal.sig Kind.scVector Space.vmem Cert.KernelIdeal.S8192 EltTy.i32)
local notation "s1V" => (Memref.whole Cert.KernelIdeal.cc0_scratch1 : Memref Cert.KernelIdeal.sig Kind.scVector Space.vmem Cert.KernelIdeal.S8192 EltTy.i32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S8192 EltTy.f32)
local notation "s4V" => (Memref.whole Cert.KernelIdeal.cc0_scratch4 : Memref Cert.KernelIdeal.sig Kind.scVector Space.vmem Cert.KernelIdeal.S16 EltTy.f32)
local notation "s5V" => (Memref.whole Cert.KernelIdeal.cc0_scratch5 : Memref Cert.KernelIdeal.sig Kind.scVector Space.vmem Cert.KernelIdeal.S16 EltTy.f32)

variable [FloatOps F]
variable (pk : Dev nD → S262144.Idx → BitVec 32) (tb : Dev nD → S67108864.Idx → F .f32)
variable (d : Dev nD) (L : grid0.Coords)

/-- The first loop's invariant, before trip `k`: the labels as copied in, and the first `16 k` positions and signs stored. -/
def inv1 (k : ℕ) (_ : PUnit) : sProp 𝕄 :=
  iprop(((s0V).view.loc (thr d L) ↦{fullShare} (lab (pk d) (wL L).val : Buf (Elt F) ((s0V).view.loc (thr d L))))
    ∗ (∃ f : Buf (Elt F) ((s1V).view.loc (thr d L)), ⌜∀ x : S8192.Idx, (x 0).val < 16 * k → f x = addr (pk d) (wL L).val x⌝ ∗ (s1V).view.loc (thr d L) ↦{fullShare} f)
    ∗ ∃ f : Buf (Elt F) ((s2V).view.loc (thr d L)), ⌜∀ x : S8192.Idx, (x 0).val < 16 * k → f x = sgn (pk d) F (wL L).val x⌝ ∗ (s2V).view.loc (thr d L) ↦{fullShare} f)

/-- The second loop's invariant, before trip `k`: the scores and the signs as they stand, the accumulators' values. -/
def inv2 (k : ℕ) (acc : FVec F S16 .f32 × FVec F S16 .f32) : sProp 𝕄 :=
  iprop(⌜acc = accs (pk d) (tb d) (wL L).val k⌝
    ∗ ((s3V).view.loc (thr d L) ↦{fullShare} (got (pk d) (tb d) (wL L).val : Buf (Elt F) ((s3V).view.loc (thr d L))))
    ∗ ((s2V).view.loc (thr d L) ↦{fullShare} (sgn (pk d) F (wL L).val : Buf (Elt F) ((s2V).view.loc (thr d L)))))

/-- What the proof asks of the packed labels: every position they name is in the table. -/
def PreOK (pk : Dev nD → S262144.Idx → BitVec 32) : Prop := ∀ (d : Dev nD) (j : S262144.Idx), (addrW (pk d j)).toNat < 67108864

set_option maxHeartbeats 4000000 in
/-- The task on tile `L 1` of SparseCore `L 0` of device `d`. -/
theorem tile_body (hF : (K (F := F)).Facts) (hpre : PreOK pk) (O : CellTallies nD τ sig (HIx 1)) (W : Waits sig (HIx 1)) (hO : ∀ g, O g none = 0) :
    iprop(levAts (K (F := F)).L (K (F := F)).lev ∗ emp ∗ goPts pk tb d (wL L)
        ∗ scopedBufs (thr d L) ∗ scopedSems0 (thr d L) ∗ owes (thr d L) O W)
      ⊢ wp frame (wpE (defs₀ (F := F)) 𝒱₀ (thr d L) none) Set.univ
          (cc0__sc_loss L tV (Memref.isWhole_whole _) kV (Memref.isWhole_whole _) aV (Memref.isWhole_whole _) bV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scoped0 cc0_scoped1 cc0_scoped2)
          fun _ => iprop(tdPts pk tb d (wL L)
            ∗ scopedBufs (thr d L) ∗ scopedSems0 (thr d L)
            ∗ ∃ W', ⌜∀ p ∈ W', p ∈ W ∨ p.2 = none⌝ ∗ owes (thr d L) O W') := by
  simp only [cc0__sc_loss_eq_skeleton]; unfold cc0__sc_loss_skel
  simp only [k0_part1_eq_skeleton]; unfold k0_part1_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨Hk, Ht, ⟨%fa, Ha⟩, ⟨%fb, Hb⟩⟩, ⟨⟨%f0, H0⟩, ⟨%f1, H1⟩, ⟨%f2, H2⟩, ⟨%f3, H3⟩, ⟨%f4, H4⟩, ⟨%f5, H5⟩, Hbufs⟩, ⟨HsG, HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Hk := (Entails.of_eq (pts_kV (F := F) d L _ _).symm) $$ Hk
  ihave Ht := (Entails.of_eq (pts_tV (F := F) d L _ _).symm) $$ Ht
  ihave Ha := (Entails.of_eq (pts_aRowK (F := F) d L _).symm) $$ Ha
  ihave Hb := (Entails.of_eq (pts_bRowK (F := F) d L _).symm) $$ Hb
  ihave H0 := (Entails.of_eq (show ((thr d L).loc cc0_scratch0 ↦{fullShare} f0 : sProp 𝕄) = (s0V).view.loc (thr d L) ↦{fullShare} f0 from rfl)) $$ H0
  ihave H1 := (Entails.of_eq (show ((thr d L).loc cc0_scratch1 ↦{fullShare} f1 : sProp 𝕄) = (s1V).view.loc (thr d L) ↦{fullShare} f1 from rfl)) $$ H1
  ihave H2 := (Entails.of_eq (show ((thr d L).loc cc0_scratch2 ↦{fullShare} f2 : sProp 𝕄) = (s2V).view.loc (thr d L) ↦{fullShare} f2 from rfl)) $$ H2
  ihave H3 := (Entails.of_eq (show ((thr d L).loc cc0_scratch3 ↦{fullShare} f3 : sProp 𝕄) = (s3V).view.loc (thr d L) ↦{fullShare} f3 from rfl)) $$ H3
  ihave H4 := (Entails.of_eq (show ((thr d L).loc cc0_scratch4 ↦{fullShare} f4 : sProp 𝕄) = (s4V).view.loc (thr d L) ↦{fullShare} f4 from rfl)) $$ H4
  ihave H5 := (Entails.of_eq (show ((thr d L).loc cc0_scratch5 ↦{fullShare} f5 : sProp 𝕄) = (s5V).view.loc (thr d L) ↦{fullShare} f5 from rfl)) $$ H5
  sl_exec
  ihave H0 := (Entails.of_eq (congrArg (fun f : Buf (Elt F) ((s0V).view.loc (thr d L)) => ((s0V).view.loc (thr d L) ↦{fullShare} f : sProp 𝕄))
    (landed_lab pk d L f0 (tile_body.sl.dma0 pk d L) rfl))) $$ H0
  sl_for (inv1 pk d L) $$ [H0 H1 H2]
  case region =>
    intro k _
    unfold inv1
    iintro ⟨H0, ⟨%g1, %h1, H1⟩, ⟨%g2, %h2, H2⟩⟩
    sl_exec
    sl_step
    have hk : k.val < 512 := trips1 ▸ k.isLt
    isplitl [H0]; · iexact H0
    isplitl [H1]
    · iexists _; isplitr
      swap; · iexact H1
      ipureintro
      refine store_row (s1V).view g1 (addr (pk d) (wL L).val) hk (k0_off2_eq k) _ _ ?_ h1
      rw [load_row cc0_scratch0 (s0V) _ hk (k0_off2_eq k)]; exact pay2_row pk d _ _
    · iexists _; isplitr
      swap; · iexact H2
      ipureintro
      refine store_row (s2V).view g2 (sgn (pk d) F (wL L).val) hk (k0_off2_eq k) _ _ ?_ h2
      rw [load_row cc0_scratch0 (s0V) _ hk (k0_off2_eq k)]; exact pay3_row pk d _ _
  · unfold inv1
    isplitl [H0]; · iexact H0
    isplitl [H1]
    · iexists f1; isplitr
      · ipureintro; intro x hx; omega
      · iexact H1
    · iexists f2; isplitr
      · ipureintro; intro x hx; omega
      · iexact H2
  iintro %_ HI
  unfold inv1
  icases HI with ⟨H0, ⟨%g1, %h1, H1⟩, ⟨%g2, %h2, H2⟩⟩
  have hall : ∀ x : S8192.Idx, (x 0).val < 16 * k0_t1_loop.trips := fun x => by
    rw [trips1]; exact (x 0).isLt
  obtain rfl : g1 = addr (pk d) (wL L).val := funext fun x => h1 x (hall x)
  obtain rfl : g2 = sgn (pk d) F (wL L).val := funext fun x => h2 x (hall x)
  have hin : ∀ x, ((s1V).view.read (Elt F) (addr (pk d) (wL L).val : Buf (Elt F) ((s1V).view.loc (thr d L))) x).toNat
      < S67108864.size gathers_S67108864_S8192.axis := fun x => hpre d _
  sl_exec
  ihave H3 := (Entails.of_eq (congrArg (fun f : Buf (Elt F) ((s3V).view.loc (thr d L)) => ((s3V).view.loc (thr d L) ↦{fullShare} f : sProp 𝕄))
    (landed_got pk tb d L hin (tile_body.sl.gather0 pk tb d L hin) rfl))) $$ H3
  sl_for (inv2 pk tb d L) $$ [H2 H3]
  case region =>
    intro k acc
    unfold inv2
    iintro ⟨%ha, H3, H2⟩
    sl_exec
    sl_step
    have hk : k.val < 512 := trips2 ▸ k.isLt
    isplitr
    · ipureintro
      rw [load_row cc0_scratch3 (s3V) _ hk (k0_off3_eq k), load_row cc0_scratch2 (s2V) _ hk (k0_off3_eq k), ha]; rfl
    isplitl [H3]; · iexact H3
    iexact H2
  · unfold inv2
    isplitr
    · ipureintro; rfl
    isplitl [H3]; · iexact H3
    iexact H2
  iintro %acc HI
  unfold inv2
  icases HI with ⟨%ha, H3, H2⟩
  sl_exec
  sl_step
  have hacc : acc = accs (pk d) (tb d) (wL L).val 512 := trips2 ▸ ha
  isplitl [Hk Ht Ha Hb]
  · isplitl [Hk]; · iexact Hk
    isplitl [Ht]; · iexact Ht
    isplitl [Ha]
    · iapply (Entails.of_eq (pts_aRowK (F := F) d L _))
      iapply (Entails.of_eq (pointsTo_congr (landed_outP pk tb d L fa _ acc hacc (View.read_writes_full (s4V).view f4 _ _ []))))
      iexact Ha
    · iapply (Entails.of_eq (pts_bRowK (F := F) d L _))
      iapply (Entails.of_eq (pointsTo_congr (landed_outN pk tb d L fb _ acc hacc (View.read_writes_full (s5V).view f5 _ _ []))))
      iexact Hb
  isplitl [H0 H1 H2 H3 H4 H5 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact Hbufs
  isplitl [HsA HsB HsC HsG Hsems]
  · isplitl [HsG]; · iexact HsG
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Loss

end
-- ==== Proof.Host.lean ====
/-
  What the host computes around the call: before it, the packing of each sample's four label words into one and the table
  flattened; after it, the two results summed and the loss formed of the two sums. Each line of operations is given as a
  list, and @main as the two lines with the call between them.
-/
module

public import proofs.«01_k».proof.Proof.Setup
public import Idealize.ShloMosaic.Lib.Pipeline.Frame

@[expose] public section

noncomputable section

namespace Cert.Proof.Loss

open Cert.KernelIdeal Cert.KernelIdeal.Gen

open Idealize.ShloMosaic Idealize.ShloMosaic.TcCoe Idealize.SL.Sem Idealize.ShloMosaic.StableHlo

variable {F : FTy → Type} [FloatOps F]

/-- The host's operations before the call. -/
abbrev opsA : List (HloOp τ sig (Elt F)) :=
  [ unary main_arg1 main_v0 ((extractStridedSlice S262144x1 ![0, 0] · slices_S262144x4_S262144x1_0_0) : (⟨S262144x4, .i32⟩ : BufTy).Contents (Elt F) → (⟨S262144x1, .i32⟩ : BufTy).Contents (Elt F)),
    reshape main_v0 main_v1 (rfl : (.i32 : EltTy) = .i32) shapeCasts_S262144x1_S262144,
    nullary main_c (constantI S_ 32 16#32),
    unary main_c main_v2 (broadcastInDim S262144 ![] bcast_S_S262144 : (⟨S_, .i32⟩ : BufTy).Contents (Elt F) → (⟨S262144, .i32⟩ : BufTy).Contents (Elt F)),
    binary main_v1 main_v2 main_v3 (Host.shli : (⟨S262144, .i32⟩ : BufTy).Contents (Elt F) → (⟨S262144, .i32⟩ : BufTy).Contents (Elt F) → (⟨S262144, .i32⟩ : BufTy).Contents (Elt F)),
    unary main_arg1 main_v4 ((extractStridedSlice S262144x1 ![0, 1] · slices_S262144x4_S262144x1_0_1) : (⟨S262144x4, .i32⟩ : BufTy).Contents (Elt F) → (⟨S262144x1, .i32⟩ : BufTy).Contents (Elt F)),
    reshape main_v4 main_v5 (rfl : (.i32 : EltTy) = .i32) shapeCasts_S262144x1_S262144,
    nullary main_c_0 (constantI S_ 32 12#32),
    unary main_c_0 main_v6 (broadcastInDim S262144 ![] bcast_S_S262144 : (⟨S_, .i32⟩ : BufTy).Contents (Elt F) → (⟨S262144, .i32⟩ : BufTy).Contents (Elt F)),
    binary main_v5 main_v6 main_v7 (Host.shli : (⟨S262144, .i32⟩ : BufTy).Contents (Elt F) → (⟨S262144, .i32⟩ : BufTy).Contents (Elt F) → (⟨S262144, .i32⟩ : BufTy).Contents (Elt F)),
    binary main_v3 main_v7 main_v8 (ori : (⟨S262144, .i32⟩ : BufTy).Contents (Elt F) → (⟨S262144, .i32⟩ : BufTy).Contents (Elt F) → (⟨S262144, .i32⟩ : BufTy).Contents (Elt F)),
    unary main_arg1 main_v9 ((extractStridedSlice S262144x1 ![0, 2] · slices_S262144x4_S262144x1_0_2) : (⟨S262144x4, .i32⟩ : BufTy).Contents (Elt F) → (⟨S262144x1, .i32⟩ : BufTy).Contents (Elt F)),
    reshape main_v9 main_v10 (rfl : (.i32 : EltTy) = .i32) shapeCasts_S262144x1_S262144,
    nullary main_c_1 (constantI S_ 32 1#32),
    unary main_c_1 main_v11 (broadcastInDim S262144 ![] bcast_S_S262144 : (⟨S_, .i32⟩ : BufTy).Contents (Elt F) → (⟨S262144, .i32⟩ : BufTy).Contents (Elt F)),
    binary main_v10 main_v11 main_v12 (Host.shli : (⟨S262144, .i32⟩ : BufTy).Contents (Elt F) → (⟨S262144, .i32⟩ : BufTy).Contents (Elt F) → (⟨S262144, .i32⟩ : BufTy).Contents (Elt F)),
    binary main_v8 main_v12 main_v13 (ori : (⟨S262144, .i32⟩ : BufTy).Contents (Elt F) → (⟨S262144, .i32⟩ : BufTy).Contents (Elt F) → (⟨S262144, .i32⟩ : BufTy).Contents (Elt F)),
    unary main_arg1 main_v14 ((extractStridedSlice S262144x1 ![0, 3] · slices_S262144x4_S262144x1_0_3) : (⟨S262144x4, .i32⟩ : BufTy).Contents (Elt F) → (⟨S262144x1, .i32⟩ : BufTy).Contents (Elt F)),
    reshape main_v14 main_v15 (rfl : (.i32 : EltTy) = .i32) shapeCasts_S262144x1_S262144,
    binary main_v13 main_v15 main_v16 (ori : (⟨S262144, .i32⟩ : BufTy).Contents (Elt F) → (⟨S262144, .i32⟩ : BufTy).Contents (Elt F) → (⟨S262144, .i32⟩ : BufTy).Contents (Elt F)),
    reshape main_arg0 main_v17 (rfl : (.f32 : EltTy) = .f32) shapeCasts_S16x2048x2048_S67108864 ]

/-- The host's operations after it. -/
abbrev opsB : List (HloOp τ sig (Elt F)) :=
  [ nullary main_cst (constant S_ .f32 0x00000000#32),
    binary main_v18_0 main_cst main_v19 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_2 (constant S_ .f32 0x00000000#32),
    binary main_v18_1 main_cst_2 main_v20 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_3 (constant S_ .f32 0x3F800000#32),
    binary main_cst_3 main_v20 main_v21 (addf : (⟨S_, .f32⟩ : BufTy).Contents (Elt F) → (⟨S_, .f32⟩ : BufTy).Contents (Elt F) → (⟨S_, .f32⟩ : BufTy).Contents (Elt F)),
    nullary main_cst_4 (constant S_ .f32 0x48800000#32),
    binary main_v21 main_cst_4 main_v22 (mulf : (⟨S_, .f32⟩ : BufTy).Contents (Elt F) → (⟨S_, .f32⟩ : BufTy).Contents (Elt F) → (⟨S_, .f32⟩ : BufTy).Contents (Elt F)),
    nullary main_cst_5 (constant S_ .f32 0xBF800000#32),
    binary main_cst_5 main_v22 main_v23 (Host.divf : (⟨S_, .f32⟩ : BufTy).Contents (Elt F) → (⟨S_, .f32⟩ : BufTy).Contents (Elt F) → (⟨S_, .f32⟩ : BufTy).Contents (Elt F)),
    binary main_v23 main_v19 main_v24 (mulf : (⟨S_, .f32⟩ : BufTy).Contents (Elt F) → (⟨S_, .f32⟩ : BufTy).Contents (Elt F) → (⟨S_, .f32⟩ : BufTy).Contents (Elt F)),
    reshape main_v24 main_v25 (rfl : (.f32 : EltTy) = .f32) shapeCasts_S_S1 ]

set_option maxRecDepth 8192 in
/-- @main is the first line, the call, the second line. -/
theorem main_eq (d : Dev nD) :
    main (F := F) d = (seq opsA >>= fun _ => ((K (F := F)).run d 0 >>= fun _ => (seq opsB >>= fun _ => pure ⟨⟩))) := by
  rw [seq_bind_seqK, seq_bind_seqK]
  rfl

set_option maxRecDepth 8192 in
theorem opsA_sub : (opsA : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., binary_bufs_sub .., reshape_bufs_sub ..⟩

theorem opsA_fresh : ∀ op ∈ (opsA : List (HloOp τ sig (Elt F))), op.fresh = ∅ :=
  List.forall_iff_forall_mem.mp (forall_fresh_of_map rfl)

theorem opsA_uc : ∀ op ∈ (opsA : List (HloOp τ sig (Elt F))), op.bufs ⊆ Pipeline.ucRefs τ sig := fun op h =>
  Pipeline.sub_ucRefs op (List.forall_iff_forall_mem.mp opsA_sub op h)

set_option maxRecDepth 8192 in
theorem opsB_sub : (opsB : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., reshape_bufs_sub ..⟩

theorem opsB_fresh : ∀ op ∈ (opsB : List (HloOp τ sig (Elt F))), op.fresh = ∅ :=
  List.forall_iff_forall_mem.mp (forall_fresh_of_map rfl)

theorem opsB_uc : ∀ op ∈ (opsB : List (HloOp τ sig (Elt F))), op.bufs ⊆ Pipeline.ucRefs τ sig := fun op h =>
  Pipeline.sub_ucRefs op (List.forall_iff_forall_mem.mp opsB_sub op h)

/-! ## The buffers' contents, line by line -/

variable (m : (ℓ : Loc nD τ sig) → Buf (Elt F) ℓ)

/-- At the call. -/
def V1 (d : Dev nD) : Valuation τ sig (Elt F) := after opsA (launchContents m d)

/-- The packed labels and the table, as the call finds them. -/
def pkM (d : Dev nD) : S262144.Idx → BitVec 32 := V1 m d (Proc.devRef .tc main_v16)
def tbM (d : Dev nD) : S67108864.Idx → F .f32 := V1 m d (Proc.devRef .tc main_v17)

/-- After the call: its two results hold the tasks' sums. -/
def V2 (d : Dev nD) : Valuation τ sig (Elt F) :=
  Function.update (Function.update (V1 m d) (Proc.devRef .tc main_v18_0) (outP (pkM m d) (tbM m d)))
    (Proc.devRef .tc main_v18_1) (outN (pkM m d) (tbM m d))

/-- At the end. -/
def V3 (d : Dev nD) : Valuation τ sig (Elt F) := after opsB (V2 m d)

theorem V2_a (d : Dev nD) : V2 m d (Proc.devRef .tc main_v18_0) = outP (pkM m d) (tbM m d) := by
  unfold V2
  rw [Function.update_of_ne (devRef_ne_of_ne (by decide)), Function.update_self]
theorem V2_b (d : Dev nD) : V2 m d (Proc.devRef .tc main_v18_1) = outN (pkM m d) (tbM m d) := by
  unfold V2
  rw [Function.update_self]
theorem V2_of_ne (d : Dev nD) {b : DevRef τ sig} (ha : b ≠ Proc.devRef .tc main_v18_0) (hb : b ≠ Proc.devRef .tc main_v18_1) :
    V2 m d b = V1 m d b := by
  unfold V2
  rw [Function.update_of_ne hb, Function.update_of_ne ha]

/-- What the first line writes. -/
abbrev wrA : List (Ref sig .tc) := [main_v0, main_v1, main_c, main_v2, main_v3, main_v4, main_v5, main_c_0, main_v6, main_v7, main_v8, main_v9, main_v10, main_c_1, main_v11, main_v12, main_v13, main_v14, main_v15, main_v16, main_v17]

theorem opsA_writes : (opsA : List (HloOp τ sig (Elt F))).Forall fun op => op.writes ⊆ (wrA.map (Proc.devRef (τ := τ) .tc)).toFinset :=
  forall_writes_sub_of_map rfl

/-- What the second line writes. -/
abbrev wrB : List (Ref sig .tc) := [main_cst, main_v19, main_cst_2, main_v20, main_cst_3, main_v21, main_cst_4, main_v22, main_cst_5, main_v23, main_v24, main_v25]

theorem opsB_writes : (opsB : List (HloOp τ sig (Elt F))).Forall fun op => op.writes ⊆ (wrB.map (Proc.devRef (τ := τ) .tc)).toFinset :=
  forall_writes_sub_of_map rfl

/-- The arguments keep their launch contents. -/
theorem V3_arg0 (d : Dev nD) : V3 m d (Proc.devRef .tc main_arg0) = m (d, Proc.devRef .tc main_arg0) := by
  unfold V3
  rw [after_of_writes_sub opsB _ opsB_writes (by decide), V2_of_ne m d (devRef_ne_of_ne (by decide)) (devRef_ne_of_ne (by decide))]
  unfold V1
  rw [after_of_writes_sub opsA _ opsA_writes (by decide)]
theorem V3_arg1 (d : Dev nD) : V3 m d (Proc.devRef .tc main_arg1) = m (d, Proc.devRef .tc main_arg1) := by
  unfold V3
  rw [after_of_writes_sub opsB _ opsB_writes (by decide), V2_of_ne m d (devRef_ne_of_ne (by decide)) (devRef_ne_of_ne (by decide))]
  unfold V1
  rw [after_of_writes_sub opsA _ opsA_writes (by decide)]

/-! ## What they are, as terms of the arguments -/

/-- One column of the labels. -/
abbrev col (x : S262144x4.Idx → BitVec 32) (c : Fin 4) (h : S262144x4.Slices ![0, c.val] S262144x1) : S262144.Idx → BitVec 32 :=
  shapeCast S262144 (extractStridedSlice S262144x1 ![0, c.val] x h) shapeCasts_S262144x1_S262144

/-- A word at every sample. -/
abbrev all (b : BitVec 32) : S262144.Idx → BitVec 32 := broadcastInDim S262144 ![] bcast_S_S262144 (constantI S_ 32 b)

/-- The packed labels: the first column shifted by sixteen, the second by twelve, the third by one, the fourth, joined. -/
abbrev packT (x : S262144x4.Idx → BitVec 32) : S262144.Idx → BitVec 32 :=
  ori (ori (ori (Host.shli (col x 0 slices_S262144x4_S262144x1_0_0) (all 16#32)) (Host.shli (col x 1 slices_S262144x4_S262144x1_0_1) (all 12#32)))
    (Host.shli (col x 2 slices_S262144x4_S262144x1_0_2) (all 1#32))) (col x 3 slices_S262144x4_S262144x1_0_3)

set_option maxHeartbeats 1000000 in
theorem pkM_eq (d : Dev nD) : pkM m d = packT (m (d, Proc.devRef .tc main_arg1)) := by
  unfold pkM V1
  after_results_simp <;> rfl

set_option maxHeartbeats 1000000 in
theorem tbM_eq (d : Dev nD) : tbM m d = shapeCast S67108864 (m (d, Proc.devRef .tc main_arg0) : S16x2048x2048.Idx → F .f32) shapeCasts_S16x2048x2048_S67108864 := by
  unfold tbM V1
  after_results_simp <;> rfl

/-- The loss of the two results of the call. -/
abbrev lossT (p n : S32x16.Idx → F .f32) : S1.Idx → F .f32 :=
  shapeCast S1 (mulf (Host.divf (constant S_ .f32 0xBF800000#32) (mulf (addf (constant S_ .f32 0x3F800000#32)
    (Host.reduceAdd n (constant S_ .f32 0x00000000#32) reducesTo_S32x16_S_d0_1 h_S_)) (constant S_ .f32 0x48800000#32)))
    (Host.reduceAdd p (constant S_ .f32 0x00000000#32) reducesTo_S32x16_S_d0_1 h_S_)) shapeCasts_S_S1

set_option maxHeartbeats 1000000 in
theorem V3_res (d : Dev nD) : V3 m d (Proc.devRef .tc main_v25) = lossT (outP (pkM m d) (tbM m d)) (outN (pkM m d) (tbM m d)) := by
  rw [← V2_a, ← V2_b]
  unfold V3
  after_results_simp <;> rfl

end Cert.Proof.Loss

end
-- ==== Proof.Run.lean ====
/-
  The program's run. What the call is given — the packed labels and the table whole, the two results whole — is split
  between the thirty-two tasks, a share of the first two and a row of the others to each, and joined again when they
  return; the host's operations before and after it keep every other buffer.
-/
module

public import proofs.«01_k».proof.Proof.Tile
public import proofs.«01_k».proof.Proof.Host

@[expose] public section

noncomputable section

namespace Cert.Proof.Loss

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after launchContents devRef_ne_of_ne devRef_mem_tcRefs)

variable {F : FTy → Type} [FloatOps F]

local notation "𝕄" => MT nD τ sig (HIx 1) (Elt F) ℕ UU ℕ

variable (pk : Dev nD → S262144.Idx → BitVec 32) (tb : Dev nD → S67108864.Idx → F .f32)

/-! ## One task -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The kernel the launch dispatches to a tile is the task at its coordinates. -/
theorem defs₀_vector (c : Fin τ.nSC) (s : Fin τ.nSub) : defs₀ (F := F) (.scVector c s) 0 ()
    = SparseCore.onTile hcore0 hsub0 (fun c s => cc0__sc_loss (coordsV c s) (Memref.whole main_v17_scv) (Memref.isWhole_whole _)
        (Memref.whole main_v16_scv) (Memref.isWhole_whole _) (Memref.whole main_v18_0_scv) (Memref.isWhole_whole _)
        (Memref.whole main_v18_1_scv) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) cc0_scratch6 cc0_scoped0 cc0_scoped1 cc0_scoped2) ⟨⟩ c s := rfl

omit [FloatOps F] in
/-- The waits a task recorded are among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
/-- What the launch asks of each of the call's tasks. -/
theorem tileObl (hF : (K (F := F)).Facts) (hpre : PreOK pk) : (K (F := F)).TileObl (D (F := F)) 𝒱 (P pk tb) v₀ 0 := by
  intro d c i O W hO _ _
  simp only [show (P pk tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body pk tb d (coordsV ⟨_, hci.1⟩ ⟨_, hci.2⟩) hF hpre O W hO).trans (wp_mono frame _ _ fun _ => obl_post)

/-! ## Thirty-two tasks from two SparseCores of sixteen tiles -/

/-- A task's number and its place. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

omit [FloatOps F] in
theorem bigSep_wid (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  rfl

/-! ## The arrays split between the tasks -/

theorem aRowSet_eq (w : Fin 32) : aRowSet w = (orow w).set := by
  show ((View.whole main_v18_0_scv).slice (orow w)).set = _
  rw [View.set_slice]; exact Finset.map_refl
theorem bRowSet_eq (w : Fin 32) : bRowSet w = (orow w).set := by
  show ((View.whole main_v18_1_scv).slice (orow w)).set = _
  rw [View.set_slice]; exact Finset.map_refl

theorem aRows_disjoint : ∀ i ∈ (Finset.univ : Finset (Fin 32)), ∀ j ∈ (Finset.univ : Finset (Fin 32)), i ≠ j → Disjoint (aRowSet i) (aRowSet j) :=
  fun i _ j _ h => by rw [aRowSet_eq, aRowSet_eq]; exact Rect.part_disjoint odiv h
theorem bRows_disjoint : ∀ i ∈ (Finset.univ : Finset (Fin 32)), ∀ j ∈ (Finset.univ : Finset (Fin 32)), i ≠ j → Disjoint (bRowSet i) (bRowSet j) :=
  fun i _ j _ h => by rw [bRowSet_eq, bRowSet_eq]; exact Rect.part_disjoint odiv h
theorem aRows_cover : (Finset.univ : Finset (Fin 32)).biUnion aRowSet = Finset.univ :=
  (Finset.biUnion_congr rfl fun i _ => aRowSet_eq i).trans (Rect.biUnion_part odiv)
theorem bRows_cover : (Finset.univ : Finset (Fin 32)).biUnion bRowSet = Finset.univ :=
  (Finset.biUnion_congr rfl fun i _ => bRowSet_eq i).trans (Rect.biUnion_part odiv)

omit [FloatOps F] in
theorem aPts_rows (d : Dev nD) (f : Buf (Elt F) (aLoc d)) :
    (aLoc d ↦{fullShare} f : sProp 𝕄) = bigSep Finset.univ fun w : Fin 32 => aRowPts d w f := by
  unfold aRowPts
  rw [← pointsTo_biUnion Finset.univ (ℓ := aLoc d) aRowSet aRows_disjoint, aRows_cover]; try rfl
omit [FloatOps F] in
theorem bPts_rows (d : Dev nD) (f : Buf (Elt F) (bLoc d)) :
    (bLoc d ↦{fullShare} f : sProp 𝕄) = bigSep Finset.univ fun w : Fin 32 => bRowPts d w f := by
  unfold bRowPts
  rw [← pointsTo_biUnion Finset.univ (ℓ := bLoc d) bRowSet bRows_disjoint, bRows_cover]; try rfl
omit [FloatOps F] in
theorem leaves32 (ℓ : Loc nD τ sig) (f : Buf (Elt F) ℓ) :
    (ℓ ↦{fullShare} f : sProp 𝕄) = bigSep Finset.univ fun w : Fin 32 => ℓ ↦{shr w} f :=
  ShareLeaves.pointsTo_leaves Finset.univ f 5 fullShare
omit [FloatOps F] in
theorem kPts_shares (d : Dev nD) :
    (kLoc d ↦{fullShare} (pk d : Buf (Elt F) (kLoc d)) : sProp 𝕄) = bigSep Finset.univ fun w : Fin 32 => kShPts (F := F) pk d w :=
  leaves32 (kLoc d) (pk d : Buf (Elt F) (kLoc d))
omit [FloatOps F] in
theorem tPts_shares (d : Dev nD) :
    (tLoc d ↦{fullShare} (tb d : Buf (Elt F) (tLoc d)) : sProp 𝕄) = bigSep Finset.univ fun w : Fin 32 => tShPts tb d w :=
  leaves32 (tLoc d) (tb d : Buf (Elt F) (tLoc d))

/-- What the call takes, from the four arrays whole. -/
theorem call_in (d : Dev nD) (f : Buf (Elt F) (aLoc d)) (g : Buf (Elt F) (bLoc d)) :
    iprop((kLoc d ↦{fullShare} (pk d : Buf (Elt F) (kLoc d))) ∗ (tLoc d ↦{fullShare} (tb d : Buf (Elt F) (tLoc d)))
        ∗ (aLoc d ↦{fullShare} f) ∗ (bLoc d ↦{fullShare} g) : sProp 𝕄)
      ⊢ bigSep Finset.univ fun c : Fin ((K (F := F)).nCore 0) => (P pk tb).st 0 d c := by
  show _ ⊢ bigSep Finset.univ fun c : Fin ((K (F := F)).nCore 0) => bigSep Finset.univ fun i : Fin 16 => goPts pk tb d (wid (Fin.cast nCore_zero c) i)
  rw [bigSep_wid (fun w => goPts pk tb d w), kPts_shares, tPts_shares, aPts_rows, bPts_rows]
  refine BI.Entails.trans ?_ (bigSep_mono (Φ := fun w => iprop(kShPts (F := F) pk d w ∗ tShPts tb d w ∗ aRowPts d w f ∗ bRowPts d w g)) fun w _ => ?_)
  · rw [bigSep_sep', bigSep_sep', bigSep_sep']; exact .refl _
  · show iprop(kShPts (F := F) pk d w ∗ tShPts tb d w ∗ aRowPts d w f ∗ bRowPts d w g) ⊢ goPts pk tb d w
    iintro ⟨Hk, Ht, Ha, Hb⟩
    isplitl [Hk]; · iexact Hk
    isplitl [Ht]; · iexact Ht
    isplitl [Ha]; · iexists f; iexact Ha
    iexists g; iexact Hb

/-- What it gives back, the four arrays whole. -/
theorem call_out (d : Dev nD) :
    (bigSep Finset.univ fun c : Fin ((K (F := F)).nCore 0) => (P pk tb).dn 0 d c)
      ⊢ iprop((kLoc d ↦{fullShare} (pk d : Buf (Elt F) (kLoc d))) ∗ (tLoc d ↦{fullShare} (tb d : Buf (Elt F) (tLoc d)))
        ∗ (aLoc d ↦{fullShare} (outP (pk d) (tb d) : Buf (Elt F) (aLoc d))) ∗ (bLoc d ↦{fullShare} (outN (pk d) (tb d) : Buf (Elt F) (bLoc d))) : sProp 𝕄) := by
  show (bigSep Finset.univ fun c : Fin ((K (F := F)).nCore 0) => bigSep Finset.univ fun i : Fin 16 => tdPts pk tb d (wid (Fin.cast nCore_zero c) i)) ⊢ _
  rw [bigSep_wid (fun w => tdPts pk tb d w), kPts_shares, tPts_shares, aPts_rows, bPts_rows]
  unfold tdPts
  rw [bigSep_sep', bigSep_sep', bigSep_sep']

/-! ## The launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P pk tb).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) pk tb).x q thr) = bigSep Finset.univ fun _ => iprop(emp) from
    bigSep_congr fun _ _ => bigSep_univ_of_subsingleton (0 : Fin 1), bigSep_emp']
  iempintro

/-! ## @main on the TensorCore -/

variable (m : (ℓ : Loc nD τ sig) → Buf (Elt F) ℓ) (ρ : Dev nD → PrngReg)

abbrev k' : DevRef τ sig := Proc.devRef .tc main_v16
abbrev t' : DevRef τ sig := Proc.devRef .tc main_v17
abbrev a' : DevRef τ sig := Proc.devRef .tc main_v18_0
abbrev b' : DevRef τ sig := Proc.devRef .tc main_v18_1

/-- The buffers the call takes. -/
abbrev S4 : Finset (DevRef τ sig) := {k', t', a', b'}

theorem S4_sub : S4 ⊆ Pipeline.ucRefs τ sig := by
  intro x hx
  simp only [Finset.mem_insert, Finset.mem_singleton] at hx
  rcases hx with rfl | rfl | rfl | rfl <;> exact Finset.mem_filter.mpr ⟨devRef_mem_tcRefs _, by decide⟩

omit [FloatOps F] in
theorem held_S4 (d : Dev nD) (W : Valuation τ sig (Elt F)) : (held (T d) S4 W : sProp 𝕄)
    = iprop((kLoc d ↦{fullShare} W k') ∗ (tLoc d ↦{fullShare} W t') ∗ (aLoc d ↦{fullShare} W a') ∗ bLoc d ↦{fullShare} W b') := by
  unfold held S4
  rw [SparseCore.bigSep_insert' (by decide), SparseCore.bigSep_insert' (by decide), SparseCore.bigSep_insert' (by decide), bigSep_singleton]

/-- What @main leaves the claim: every buffer it owns at what the host's operations and the call leave there. -/
abbrev FIN (d : Dev nD) : sProp 𝕄 := held (T d) (Pipeline.ucRefs τ sig) (V3 m d)

/-- The call's four arrays as the first line leaves them. -/
theorem held_V1 (d : Dev nD) : (held (T d) S4 (V1 m d) : sProp 𝕄)
    = iprop((kLoc d ↦{fullShare} (pkM m d : Buf (Elt F) (kLoc d))) ∗ (tLoc d ↦{fullShare} (tbM m d : Buf (Elt F) (tLoc d)))
        ∗ (aLoc d ↦{fullShare} V1 m d a') ∗ (bLoc d ↦{fullShare} V1 m d b')) := by
  rw [held_S4]
  rfl

/-- The call's four arrays back at what the tasks left, with the rest: the contents the second line starts from. -/
theorem held_V2 (d : Dev nD) :
    iprop((kLoc d ↦{fullShare} (pkM m d : Buf (Elt F) (kLoc d))) ∗ (tLoc d ↦{fullShare} (tbM m d : Buf (Elt F) (tLoc d)))
        ∗ (aLoc d ↦{fullShare} (outP (pkM m d) (tbM m d) : Buf (Elt F) (aLoc d))) ∗ (bLoc d ↦{fullShare} (outN (pkM m d) (tbM m d) : Buf (Elt F) (bLoc d))) : sProp 𝕄)
      = held (T d) S4 (V2 m d) := by
  rw [held_S4, V2_a, V2_b, V2_of_ne m d (devRef_ne_of_ne (by decide)) (devRef_ne_of_ne (by decide)),
    V2_of_ne m d (devRef_ne_of_ne (by decide)) (devRef_ne_of_ne (by decide))]
  rfl

theorem held_rest (d : Dev nD) :
    (held (T d) (Pipeline.ucRefs τ sig \ S4) (V1 m d) : sProp 𝕄) = held (T d) (Pipeline.ucRefs τ sig \ S4) (V2 m d) :=
  held_congr (T d) fun b hb => by
    have h := (Finset.mem_sdiff.mp hb).2
    refine (V2_of_ne m d (fun e => h ?_) fun e => h ?_).symm
    · rw [e]; simp
    · rw [e]; simp

theorem hmain (κ : GSem nD τ sig → ℕ) (d : Dev nD) :
    iprop((K (F := F)).ctx EH (P (pkM m) (tbM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, -⟩
  ihave Hh := (Entails.of_eq (Pipeline.unscopedBufs_held (Ix := HIx 1) (Name := ℕ) (U := UU) (Lvl := ℕ) d (launchContents m d))) $$ Hbufs
  -- the host's first line
  iapply (wp_seq 𝒱 none Set.univ d (Pipeline.ucRefs τ sig) _ opsA opsA_uc opsA_fresh (launchContents m d)) $$ [Hb Hh]
  · isplitl [Hb]; · iexact Hb
    iexact Hh
  iintro ⟨Hb, Hh⟩
  ihave Hh := (Entails.of_eq (show (held (d.tc : Thread nD τ) (Pipeline.ucRefs τ sig) (after opsA (launchContents m d)) : sProp 𝕄) = held (T d) (Pipeline.ucRefs τ sig) (V1 m d) from rfl)) $$ Hh
  ihave Hs := (Entails.of_eq (held_sub_split (T d) S4_sub (V1 m d))) $$ Hh
  icases Hs with ⟨H4, Hrest⟩
  ihave H4 := (Entails.of_eq (held_V1 m d)) $$ H4
  ihave Hgo := (call_in (pkM m) (tbM m) d _ _) $$ H4
  -- the call
  rw [wp_bind]
  iapply ((K (F := F)).wp_run (D (F := F)) 𝒱 (EH := EH) (P := P (pkM m) (tbM m)) κ d 0) $$ [Hst Hgo Hrest Hb Hts]
  isplitr; · iexact Hctx
  isplitl [Hst]; · iexact Hst
  isplitl [Hgo]; · iexact Hgo
  iintro ⟨Hst, Hdn⟩
  ihave H4 := (call_out (pkM m) (tbM m) d) $$ Hdn
  ihave H4 := (Entails.of_eq (held_V2 m d)) $$ H4
  ihave Hrest := (Entails.of_eq (held_rest m d)) $$ Hrest
  -- the host's second line
  iapply (wp_seq 𝒱 none Set.univ d (Pipeline.ucRefs τ sig) _ opsB opsB_uc opsB_fresh (V2 m d)) $$ [Hb H4 Hrest]
  · isplitl [Hb]; · iexact Hb
    iapply (Entails.of_eq (held_sub_split (T d) S4_sub (V2 m d)).symm)
    isplitl [H4]; · iexact H4
    iexact Hrest
  iintro ⟨Hb, Hh⟩
  ihave Hh := (Entails.of_eq (show (held (d.tc : Thread nD τ) (Pipeline.ucRefs τ sig) (after opsB (V2 m d)) : sProp 𝕄) = FIN m d from rfl)) $$ Hh
  rw [wp_pure]; imodintro
  isplitl [Hst]; · iexact Hst
  isplitl [Hh]; · iexact Hh
  isplitl [Hb] <;> iassumption

/-- What the claim reads of a final state: every buffer of @main. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The program's run -/

def QC : PUnit × MemSt nD τ sig (Elt F) → Prop := fun r =>
  (∀ c : Dev nD, ∀ b ∈ Pipeline.ucRefs τ sig, r.2.mem (c, b) = V3 m c b) ∧ r.2.sem = fun _ => 0

/-- Every weakly fair execution terminates with each of @main's buffers at what the host's operations and the call leave
    there and every semaphore at zero, when every position the packed labels name is in the table. -/
theorem run_main [∀ e, Nonempty (Elt F e)] (hpre : PreOK (pkM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (pkM m) (tbM m)) (A := ∅) facts v₀
    (fun q hq => match q with | 0 => nomatch hq)
    (fun q _ => match q with | 0 => tileObl (pkM m) (tbM m) facts hpre)
    (fun q _ => match q with | 0 => SparseCore.Cfg.VecSplit.of_plain (vecSplit (pkM m) (tbM m)))
    m ρ main (fun _ => iprop(emp)) (FIN m) (u₀ (F := F)) (sep_elim_left.trans (hu₀ (pkM m) (tbM m))) (hmain m ρ) (fq m) (hfin m) (QC m)
    (fun _ h hz => ⟨h, hz⟩)

/-- The same of the three buffers a claim reads. -/
theorem run_read [∀ e, Nonempty (Elt F e)] (hpre : PreOK (pkM m)) :
    θ_run (Cert.KernelIdeal.defs (F := F)) (Cert.KernelIdeal.threads (F := F)) ⟨m, fun _ => 0, ρ⟩ fun r =>
      (∀ c : Dev nD, r.2.mem ((c.tc : Thread nD τ).loc main_v25) = lossT (outP (pkM m c) (tbM m c)) (outN (pkM m c) (tbM m c))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run Cert.KernelIdeal.defs _ _).mono (fun _ h => ⟨fun c =>
      ⟨(h.1 c _ (Finset.mem_filter.mpr ⟨devRef_mem_tcRefs main_v25, by decide⟩)).trans (V3_res m c),
        (h.1 c _ (Finset.mem_filter.mpr ⟨devRef_mem_tcRefs main_arg0, by decide⟩)).trans (V3_arg0 m c),
        (h.1 c _ (Finset.mem_filter.mpr ⟨devRef_mem_tcRefs main_arg1, by decide⟩)).trans (V3_arg1 m c)⟩, h.2⟩)
    (run_main m ρ hpre)

end Cert.Proof.Loss

end
-- ==== Proof.Words.lean ====
/-
  The words of a sample. The precondition read back as bounds on the four columns of the label array; the word the host
  packs of a sample's four columns, and what the kernel's lane reads out of it again: the table's position and the label's
  sign. All of it is arithmetic on words, none of it about a run.
-/
module

public import proofs.«01_k».proof.Proof.Host
public import proofs.«01_k».proof.Proof.Tile
public import proofs.«01_k».proof.Proof.Gen.Pre_in_range
public import Idealize.ShloMosaic.Lib.ReduceAll
public import Idealize.ShloMosaic.Lib.Affine
public import Idealize.ShloMosaic.Lib.Routing.Ops

@[expose] public section

noncomputable section

namespace Cert.Proof.Loss

open Cert.KernelIdeal Cert.KernelIdeal.Gen
open Idealize.ShloMosaic Idealize.ShloMosaic.ValueIdx

/-! ## The bounds -/

/-- Every sample's entities, relation and label within the ranges the reference's arrays are indexed by. -/
structure InRange (x : S262144x4.Idx → BitVec 32) : Prop where
  e1 : ∀ r : Fin 262144, (x (ix2 r (0 : Fin 4))).toNat < 2048
  rel : ∀ r : Fin 262144, (x (ix2 r (1 : Fin 4))).toNat < 16
  e2 : ∀ r : Fin 262144, (x (ix2 r (2 : Fin 4))).toNat < 2048
  lab : ∀ r : Fin 262144, (x (ix2 r (3 : Fin 4))).toNat < 2

/-- Column `c` of the label array, cut out and flattened, at sample `r`. -/
theorem col_apply (x : S262144x4.Idx → BitVec 32) (c : Fin 4) (h : S262144x4.Slices ![0, c.val] S262144x1)
    (h' : S262144x1.ShapeCasts S262144) (r : Fin 262144) :
    shapeCast S262144 (extractStridedSlice S262144x1 ![0, c.val] x h) h' (ix1 r) = x (ix2 r c) := by
  rw [Routing.cast21 _ h' r (0 : Fin 1) r (by simp)]
  refine extractStridedSlice_apply _ x h _ _ fun a => ?_
  match a with
  | ⟨0, _⟩ => show r.val = 0 + r.val; omega
  | ⟨1, _⟩ => show c.val = c.val + 0; omega

/-- A word between zero and `n` in the signed order is below `n` as a number. -/
theorem toNat_lt_of_cmp {x : BitVec 32} {n : ℕ} (hn : n < 2 ^ 31) (h0 : IntOp.cmpi .sge x 0#32 = 1#1)
    (h1 : IntOp.cmpi .slt x (BitVec.ofNat 32 n) = 1#1) : x.toNat < n := by
  rw [IntOp.cmpi_sge] at h0
  rw [IntOp.cmpi_slt] at h1
  have hz : (0#32 : BitVec 32).toInt = 0 := rfl
  have hx := BitVec.toInt_eq_toNat_cond x
  have hN : (BitVec.ofNat 32 n).toInt = n := by
    rw [BitVec.toInt_eq_toNat_cond, BitVec.toNat_ofNat, Nat.mod_eq_of_lt (by omega), if_pos (by omega)]
  rw [hz] at h0
  rw [hN] at h1
  have := x.isLt
  split at hx <;> omega

/-- What the precondition says of the label array. -/
theorem inRange_of_pre {F : FTy → Type} [FloatOps F] (a : FVec F S16x2048x2048 .f32) (x : IVec S262144x4 32)
    (h : Cert.Pre_in_range.fn (F := F) a x = fun _ => 1#1) : InRange x := by
  have hs : Subsingleton Cert.Pre_in_range.S_.Idx := ⟨fun p q => funext fun a => a.elim0⟩
  have key : ∀ r : Fin 262144, ((((((IntOp.cmpi .sge (x (ix2 r (0 : Fin 4))) 0#32 = 1#1 ∧ IntOp.cmpi .slt (x (ix2 r (0 : Fin 4))) 2048#32 = 1#1)
      ∧ IntOp.cmpi .sge (x (ix2 r (1 : Fin 4))) 0#32 = 1#1) ∧ IntOp.cmpi .slt (x (ix2 r (1 : Fin 4))) 16#32 = 1#1)
      ∧ IntOp.cmpi .sge (x (ix2 r (2 : Fin 4))) 0#32 = 1#1) ∧ IntOp.cmpi .slt (x (ix2 r (2 : Fin 4))) 2048#32 = 1#1)
      ∧ IntOp.cmpi .sge (x (ix2 r (3 : Fin 4))) 0#32 = 1#1) ∧ IntOp.cmpi .slt (x (ix2 r (3 : Fin 4))) 2#32 = 1#1 := by
    intro r
    have h1 := congrFun h (fun a => a.elim0)
    dsimp only [Cert.Pre_in_range.fn, Cert.Pre_in_range.fn_part1] at h1
    have h2 := Host.reduce_andi_all _ _ _ _ _ h1 (ix1 r)
    simp only [andi, cmpi, IntOp.andi_eq_one] at h2
    rw [← col_apply x 0 slices_S262144x4_S262144x1_0_0 shapeCasts_S262144x1_S262144 r,
      ← col_apply x 1 slices_S262144x4_S262144x1_0_1 shapeCasts_S262144x1_S262144 r,
      ← col_apply x 2 slices_S262144x4_S262144x1_0_2 shapeCasts_S262144x1_S262144 r,
      ← col_apply x 3 slices_S262144x4_S262144x1_0_3 shapeCasts_S262144x1_S262144 r]
    exact h2
  constructor <;> intro r <;> obtain ⟨⟨⟨⟨⟨⟨⟨a0, a1⟩, a2⟩, a3⟩, a4⟩, a5⟩, a6⟩, a7⟩ := key r
  · exact toNat_lt_of_cmp (by omega) a0 a1
  · exact toNat_lt_of_cmp (by omega) a2 a3
  · exact toNat_lt_of_cmp (by omega) a4 a5
  · exact toNat_lt_of_cmp (by omega) a6 a7

/-! ## The packed word -/

/-- Four words packed into one, as the host does it. -/
def packW (a b c l : BitVec 32) : BitVec 32 :=
  IntOp.ori (IntOp.ori (IntOp.ori (IntOp.shli .host a 16#32) (IntOp.shli .host b 12#32)) (IntOp.shli .host c 1#32)) l

/-- The packed array at sample `r` packs the sample's four columns. -/
theorem packT_apply (x : S262144x4.Idx → BitVec 32) (r : Fin 262144) :
    packT x (ix1 r) = packW (x (ix2 r (0 : Fin 4))) (x (ix2 r (1 : Fin 4))) (x (ix2 r (2 : Fin 4))) (x (ix2 r (3 : Fin 4))) := by
  rw [← col_apply x 0 slices_S262144x4_S262144x1_0_0 shapeCasts_S262144x1_S262144 r,
    ← col_apply x 1 slices_S262144x4_S262144x1_0_1 shapeCasts_S262144x1_S262144 r,
    ← col_apply x 2 slices_S262144x4_S262144x1_0_2 shapeCasts_S262144x1_S262144 r,
    ← col_apply x 3 slices_S262144x4_S262144x1_0_3 shapeCasts_S262144x1_S262144 r]
  rfl

section
variable {a b c l : BitVec 32}

theorem shli_toNat (u : ArithUnit) (x : BitVec 32) (k : ℕ) (hk : k < 32) (hx : x.toNat * 2 ^ k < 2 ^ 32) :
    (IntOp.shli u x (BitVec.ofNat 32 k)).toNat = x.toNat * 2 ^ k := by
  have hk' : (BitVec.ofNat 32 k).toNat = k := by rw [BitVec.toNat_ofNat]; omega
  rw [IntOp.shli, if_pos (by omega), BitVec.shiftLeft_eq', BitVec.toNat_shiftLeft, hk', Nat.shiftLeft_eq, Nat.mod_eq_of_lt hx]

theorem shrsi_toNat (u : ArithUnit) (x : BitVec 32) (k : ℕ) (hk : k < 32) (hx : x.toNat < 2 ^ 31) :
    (IntOp.shrsi u x (BitVec.ofNat 32 k)).toNat = x.toNat / 2 ^ k := by
  have hk' : (BitVec.ofNat 32 k).toNat = k := by rw [BitVec.toNat_ofNat]; omega
  rw [IntOp.shrsi, if_pos (by omega), BitVec.sshiftRight', hk',
    BitVec.sshiftRight_eq_of_msb_false (by rw [BitVec.msb_eq_decide]; simp only [decide_eq_false_iff_not]; omega),
    BitVec.toNat_ushiftRight, Nat.shiftRight_eq_div_pow]

theorem ori_toNat (x y : BitVec 32) (i : ℕ) (hx : 2 ^ i ∣ x.toNat) (hy : y.toNat < 2 ^ i) :
    (IntOp.ori x y).toNat = x.toNat + y.toNat := by
  obtain ⟨q, hq⟩ := hx
  rw [IntOp.ori, BitVec.toNat_or, hq, Nat.two_pow_add_eq_or_of_lt hy]

theorem andi_mask_toNat (x k : BitVec 32) (i : ℕ) (hk : k.toNat = 2 ^ i - 1) : (IntOp.andi x k).toNat = x.toNat % 2 ^ i := by
  rw [IntOp.andi, BitVec.toNat_and, hk, Nat.and_two_pow_sub_one_eq_mod]

variable (ha : a.toNat < 2048) (hb : b.toNat < 16) (hc : c.toNat < 2048) (hl : l.toNat < 2)
include ha hb hc hl

/-- The packed word as a number: the four fields in their places. -/
theorem packW_toNat : (packW a b c l).toNat = a.toNat * 65536 + b.toNat * 4096 + c.toNat * 2 + l.toNat := by
  have e1 := shli_toNat .host a 16 (by omega) (by omega)
  have e2 := shli_toNat .host b 12 (by omega) (by omega)
  have e3 := shli_toNat .host c 1 (by omega) (by omega)
  have o1 := ori_toNat (IntOp.shli .host a 16#32) (IntOp.shli .host b 12#32) 16 (by omega) (by omega)
  have o2 := ori_toNat (IntOp.ori (IntOp.shli .host a 16#32) (IntOp.shli .host b 12#32)) (IntOp.shli .host c 1#32) 12 (by omega) (by omega)
  have o3 := ori_toNat (IntOp.ori (IntOp.ori (IntOp.shli .host a 16#32) (IntOp.shli .host b 12#32)) (IntOp.shli .host c 1#32)) l 1 (by omega) (by omega)
  rw [packW, o3, o2, o1, e1, e2, e3]; omega

/-- The position the kernel's lane computes of a packed word is the row-major position of `(rel, e1, e2)` in the table. -/
theorem addrW_packW : (addrW (packW a b c l)).toNat = b.toNat * 4194304 + a.toNat * 2048 + c.toNat := by
  have hp := packW_toNat ha hb hc hl
  have s1 := shrsi_toNat .vector (packW a b c l) 12 (by omega) (by omega)
  have s2 := shrsi_toNat .vector (packW a b c l) 16 (by omega) (by omega)
  have s3 := shrsi_toNat .vector (packW a b c l) 1 (by omega) (by omega)
  have m1 := andi_mask_toNat (IntOp.shrsi .vector (packW a b c l) 12#32) 15#32 4 rfl
  have m3 := andi_mask_toNat (IntOp.shrsi .vector (packW a b c l) 1#32) 2047#32 11 rfl
  have h1 := shli_toNat .vector (IntOp.andi (IntOp.shrsi .vector (packW a b c l) 12#32) 15#32) 22 (by omega) (by omega)
  have h2 := shli_toNat .vector (IntOp.shrsi .vector (packW a b c l) 16#32) 11 (by omega) (by omega)
  have fb : (IntOp.andi (IntOp.shrsi .vector (packW a b c l) 12#32) 15#32).toNat = b.toNat := by omega
  have fa : (IntOp.shrsi .vector (packW a b c l) 16#32).toNat = a.toNat := by omega
  have fc : (IntOp.andi (IntOp.shrsi .vector (packW a b c l) 1#32) 2047#32).toNat = c.toNat := by omega
  rw [addrW, IntOp.addi, IntOp.addi, BitVec.toNat_add, BitVec.toNat_add, h1, h2, fa, fb, fc]
  omega

/-- The label's sign the kernel's lane computes of a packed word. -/
theorem sgnI_packW : sgnI (packW a b c l) = if l = 0#32 then BitVec.ofInt 32 (-1) else 1#32 := by
  have hp := packW_toNat ha hb hc hl
  have m := andi_mask_toNat (packW a b c l) 1#32 1 rfl
  have e : IntOp.andi (packW a b c l) 1#32 = l := BitVec.eq_of_toNat_eq (by omega)
  rw [sgnI, e]
  have : l = 0#32 ∨ l = 1#32 := by
    rcases (by omega : l.toNat = 0 ∨ l.toNat = 1) with h | h
    · exact .inl (BitVec.eq_of_toNat_eq h)
    · exact .inr (BitVec.eq_of_toNat_eq h)
  rcases this with rfl | rfl <;> decide

end

/-! ## The positions are inside the table -/

variable {F : FTy → Type} [FloatOps F]
variable (m : (ℓ : Loc nD τ sig) → Buf (Elt F) ℓ)

/-- Labels in range name positions inside the table. -/
theorem preOK_of_inRange (h : ∀ d : Dev nD, InRange (m (d, Proc.devRef .tc main_arg1))) : PreOK (pkM m) := by
  intro d j
  obtain ⟨r, rfl⟩ : ∃ r, j = ix1 r := ⟨j 0, eq_ix1 j⟩
  rw [pkM_eq, packT_apply, addrW_packW ((h d).e1 _) ((h d).rel _) ((h d).e2 _) ((h d).lab _)]
  have := (h d).e1 r
  have := (h d).rel r
  have := (h d).e2 r
  omega

end Cert.Proof.Loss

end
-- ==== Proof.Frames.lean ====
/-
  The three programs' frames: each run under its precondition ends, leaves the arguments as they were and every counter at
  zero. The kernel's are its run (Run.lean) under the bounds of Words.lean; the reference's is its run, which declares no
  counter.
-/
module

public import proofs.«01_k».proof.Defs
public import proofs.«01_k».proof.Proof.Run
public import proofs.«01_k».proof.Proof.Words
public import proofs.«01_k».proof.Proof.Gen.Kernel
public import proofs.«01_k».proof.Proof.Gen.ReferenceIdeal.Run

@[expose] public section

noncomputable section

namespace Cert.Proof.Loss

open Idealize.ShloMosaic Idealize.SL.Sem

/-- Under the precondition, the words packed of the kernel's labels name positions inside the table. -/
theorem preOK_ideal (m : (ℓ : Loc Cert.KernelIdeal.nD Cert.KernelIdeal.τ Cert.KernelIdeal.sig) → Buf (Elt Ideal) ℓ)
    (h : Cert.Pre_KernelIdeal m) : PreOK (pkM m) :=
  preOK_of_inRange m fun d => inRange_of_pre _ _ (h d)

/-- The kernel's run on the chip's own floats: it ends, its arguments unchanged, its counters at zero. -/
theorem frame_kernel : Cert.quiescent_Kernel := by
  intro m ρ h
  exact (θ_run Cert.KernelIdeal.defs _ _).mono (fun r h => ⟨fun c => (h.1 c).2, h.2⟩)
    (run_read (F := Bits) m ρ (preOK_of_inRange m fun d => inRange_of_pre _ _ (h d)))

/-- The same of the kernel on extended reals. -/
theorem frame_ideal : Cert.quiescent_KernelIdeal := by
  intro m ρ h
  exact (θ_run Cert.KernelIdeal.defs _ _).mono (fun r h => ⟨fun c => (h.1 c).2, h.2⟩) (run_read (F := Ideal) m ρ (preOK_ideal m h))

/-- The reference's run: it ends, its arguments unchanged, and it has no counter to leave raised. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition, which it does not need. -/
theorem frame_reference_pre : Cert.quiescent_ReferenceIdeal_pre_in_range :=
  fun m ρ _ => frame_reference m ρ trivial

end Cert.Proof.Loss

end
-- ==== Proof.Reference.lean ====
/-
  What the reference computes, sample by sample: the score at the position its label words name, the sample's term of the
  sum, and the count of the labels that are zero.
-/
module

public import proofs.«01_k».proof.Proof.Words
public import proofs.«01_k».proof.Proof.Gen.ReferenceIdeal.Run
public import Idealize.ShloMosaic.Lib.Routing.OpsPair
public import Idealize.ShloMosaic.Lib.IdealHost

@[expose] public section

noncomputable section

namespace Cert.Proof.Loss.Ref

open Cert.ReferenceIdeal Cert.ReferenceIdeal.Gen
open Idealize.ShloMosaic Idealize.ShloMosaic.ValueIdx

/-! ## The gather -/

/-- The gather of one score per sample reads the table where the sample's three start words point, when they point
    inside it. -/
theorem gather_apply {α : Type} (x : S16x2048x2048.Idx → α) (idx : IVec S262144x3 32) (r : Fin 262144) (p : S16x2048x2048.Idx)
    (h : ∀ a : Fin 3, (idx (ix2 r a)).toInt.toNat = (p a).val) :
    Host.gather gather_S16x2048x2048_S262144x3_S262144_n_012_n_n_012_1_111 x idx (ix1 r) = x p := by
  unfold Host.gather
  congr 1
  funext a
  apply Fin.ext
  have hb : a ∉ (gather_S16x2048x2048_S262144x3_S262144_n_012_n_n_012_1_111).operandBatchingDims := List.not_mem_nil
  have hc : a ∈ (gather_S16x2048x2048_S262144x3_S262144_n_012_n_n_012_1_111).collapsedSliceDims := by
    match a with
    | ⟨0, _⟩ => exact List.mem_cons_self ..
    | ⟨1, _⟩ => exact List.mem_cons_of_mem _ (List.mem_cons_self ..)
    | ⟨2, _⟩ => exact List.mem_cons_of_mem _ (List.mem_cons_of_mem _ (List.mem_cons_self ..))
  have hk : a ∉ (gather_S16x2048x2048_S262144x3_S262144_n_012_n_n_012_1_111).sKept := by
    rw [GatherDims.mem_sKept]; exact fun q => q.1 hc
  have hm : a ∈ (gather_S16x2048x2048_S262144x3_S262144_n_012_n_n_012_1_111).startIndexMap := hc
  have hsl := (gather_S16x2048x2048_S262144x3_S262144_n_012_n_n_012_1_111).slice_collapsed a hc
  simp only [GatherDims.operandIdx, GatherDims.batchCoord_eq_zero _ _ _ hb, GatherDims.offCoord_eq_zero _ _ _ hk,
    Nat.add_zero, GatherDims.start, dif_pos hm, hsl]
  have hi : ∀ hq, (gather_S16x2048x2048_S262144x3_S262144_n_012_n_n_012_1_111).siIdx (ix1 r)
      ⟨(gather_S16x2048x2048_S262144x3_S262144_n_012_n_n_012_1_111).startIndexMap.idxOf a, hq⟩ = ix2 r a := by
    intro hq
    funext b
    match b with
    | ⟨0, _⟩ => rfl
    | ⟨1, _⟩ =>
      match a with
      | ⟨0, _⟩ => rfl
      | ⟨1, _⟩ => rfl
      | ⟨2, _⟩ => rfl
  rw [hi, h a]
  exact Nat.min_eq_left (Nat.le_sub_one_of_lt (p a).isLt)

/-- One word of a sample with the reference's wrap of a negative index, `n` the axis's length. -/
abbrev wrapT (v : IVec S262144 32) (n : BitVec 32) : IVec S262144 32 :=
  select (cmpi .slt v (broadcastInDim S262144 ![] bcast_S_S262144 (constantI S_ 32 0#32))) (addi v (broadcastInDim S262144 ![] bcast_S_S262144 (constantI S_ 32 n))) v

theorem wrapT_apply (v : IVec S262144 32) (n : BitVec 32) (j : S262144.Idx) (h : (v j).toNat < 2 ^ 31) : wrapT v n j = v j :=
  Routing.wrap_of_lt (v j) _ h

theorem col_at (x : IVec S262144x4 32) (c : Fin 4) (h : S262144x4.Slices ![0, c.val] S262144x1) (r : Fin 262144) :
    col x c h (ix1 r) = x (ix2 r c) := col_apply x c h _ r

/-- A sample's three start words side by side. -/
abbrev idxT (x : IVec S262144x4 32) : IVec S262144x3 32 :=
  concatenate S262144x3 1
    [⟨S262144x1, broadcastInDim S262144x1 ![0] bcast_S262144_S262144x1_0 (wrapT (col x 1 slices_S262144x4_S262144x1_0_1) 16#32)⟩,
     ⟨S262144x1, broadcastInDim S262144x1 ![0] bcast_S262144_S262144x1_0 (wrapT (col x 0 slices_S262144x4_S262144x1_0_0) 2048#32)⟩,
     ⟨S262144x1, broadcastInDim S262144x1 ![0] bcast_S262144_S262144x1_0 (wrapT (col x 2 slices_S262144x4_S262144x1_0_2) 2048#32)⟩]
    concatenates_S262144x1_S262144x1_S262144x1_S262144x3_d1

section
variable (x : IVec S262144x4 32) (hx : InRange x) (r : Fin 262144)
include hx

theorem idxT_0 : idxT x (ix2 r (0 : Fin 3)) = x (ix2 r (1 : Fin 4)) := by
  refine (concatenate_apply_piece (t := S262144x3) 1 _ _ _ 0 (by show 0 < 3; omega) S262144x1 _ rfl rfl 0 rfl (ix2 r (0 : Fin 1)) (fun b hb => ?_) rfl).trans ?_
  · match b with
    | ⟨0, _⟩ => rfl
    | ⟨1, _⟩ => exact absurd rfl hb
  · rw [Routing.bcCol bcast_S262144_S262144x1_0 _ r, wrapT_apply _ _ _ (by rw [col_at x 1 _ r]; have := hx.rel r; omega), col_at x 1 _ r]

theorem idxT_1 : idxT x (ix2 r (1 : Fin 3)) = x (ix2 r (0 : Fin 4)) := by
  refine (concatenate_apply_piece (t := S262144x3) 1 _ _ _ 1 (by show 1 < 3; omega) S262144x1 _ rfl rfl 1 rfl (ix2 r (0 : Fin 1)) (fun b hb => ?_) rfl).trans ?_
  · match b with
    | ⟨0, _⟩ => rfl
    | ⟨1, _⟩ => exact absurd rfl hb
  · rw [Routing.bcCol bcast_S262144_S262144x1_0 _ r, wrapT_apply _ _ _ (by rw [col_at x 0 _ r]; have := hx.e1 r; omega), col_at x 0 _ r]

theorem idxT_2 : idxT x (ix2 r (2 : Fin 3)) = x (ix2 r (2 : Fin 4)) := by
  refine (concatenate_apply_piece (t := S262144x3) 1 _ _ _ 2 (by show 2 < 3; omega) S262144x1 _ rfl rfl 2 rfl (ix2 r (0 : Fin 1)) (fun b hb => ?_) rfl).trans ?_
  · match b with
    | ⟨0, _⟩ => rfl
    | ⟨1, _⟩ => exact absurd rfl hb
  · rw [Routing.bcCol bcast_S262144_S262144x1_0 _ r, wrapT_apply _ _ _ (by rw [col_at x 2 _ r]; have := hx.e2 r; omega), col_at x 2 _ r]

omit hx in
/-- A word below `2 ^ 31` read signed and cut at zero is the word read unsigned. -/
theorem toNat_toInt {w : BitVec 32} (h : w.toNat < 2 ^ 31) : w.toInt.toNat = w.toNat := by
  rw [BitVec.toInt_eq_toNat_cond, if_pos (by omega)]; rfl

/-- The score the reference reads for sample `r`: the table at `(rel, e1, e2)`. -/
theorem score_apply {α : Type} (tab : S16x2048x2048.Idx → α) (p : S16x2048x2048.Idx) (h0 : (p 0).val = (x (ix2 r (1 : Fin 4))).toNat)
    (h1 : (p 1).val = (x (ix2 r (0 : Fin 4))).toNat) (h2 : (p 2).val = (x (ix2 r (2 : Fin 4))).toNat) :
    Host.gather gather_S16x2048x2048_S262144x3_S262144_n_012_n_n_012_1_111 tab (idxT x) (ix1 r) = tab p := by
  refine gather_apply tab (idxT x) r p fun a => ?_
  have b0 := hx.e1 r
  have b1 := hx.rel r
  have b2 := hx.e2 r
  match a with
  | ⟨0, _⟩ => exact (congrArg (fun w => w.toInt.toNat) (idxT_0 x hx r)).trans ((toNat_toInt (by omega)).trans h0.symm)
  | ⟨1, _⟩ => exact (congrArg (fun w => w.toInt.toNat) (idxT_1 x hx r)).trans ((toNat_toInt (by omega)).trans h1.symm)
  | ⟨2, _⟩ => exact (congrArg (fun w => w.toInt.toNat) (idxT_2 x hx r)).trans ((toNat_toInt (by omega)).trans h2.symm)

end

/-! ## The terms, as arrays over the samples -/

/-- The labels as floats. -/
abbrev labT (x : IVec S262144x4 32) : FVec Ideal S262144 .f32 := sitofp .f32 (col x 3 slices_S262144x4_S262144x1_0_3)
/-- A float at every sample. -/
abbrev allF (b : BitVec 32) : FVec Ideal S262144 .f32 := broadcastInDim S262144 ![] bcast_S_S262144 (constant S_ .f32 b)
/-- The logistic of each sample's score. -/
abbrev sigT (tab : FVec Ideal S16x2048x2048 .f32) (x : IVec S262144x4 32) : FVec Ideal S262144 .f32 :=
  Host.divf (allF 0x3F800000#32) (addf (allF 0x3F800000#32) (Host.exp (Host.negf (Host.gather gather_S16x2048x2048_S262144x3_S262144_n_012_n_n_012_1_111 tab (idxT x)))))
/-- Each sample's term of the sum. -/
abbrev perT (tab : FVec Ideal S16x2048x2048 .f32) (x : IVec S262144x4 32) : FVec Ideal S262144 .f32 :=
  addf (mulf (labT x) (sigT tab x)) (mulf (subf (allF 0x3F800000#32) (labT x)) (subf (allF 0x3F800000#32) (sigT tab x)))
/-- Which labels are zero, as words. -/
abbrev negT (x : IVec S262144x4 32) : IVec S262144 32 := extui 32 (cmpf .oeq (labT x) (allF 0x00000000#32)) natLt_1_32
/-- The loss of the count of the zero labels and of the sum of the terms. -/
abbrev lossR (tab : FVec Ideal S16x2048x2048 .f32) (x : IVec S262144x4 32) : FVec Ideal S1 .f32 :=
  shapeCast S1 (mulf (Host.divf (constant S_ .f32 0xBF800000#32) (mulf (addf (constant S_ .f32 0x3F800000#32)
    (sitofp .f32 (Host.reduce IntOp.addi (negT x) (constantI S_ 32 0#32) reducesTo_S262144_S_d0 h_S_))) (constant S_ .f32 0x48800000#32)))
    (Host.reduceAdd (perT tab x) (constant S_ .f32 0x00000000#32) reducesTo_S262144_S_d0 h_S_)) shapeCasts_S_S1

/-- The reference's result is that loss of its two arguments. -/
theorem res_eq (m : (ℓ : Loc nD τ sig) → Buf (Elt Ideal) ℓ) (c : Dev nD) :
    Cert.ReferenceIdeal.Value.res_main_v52 (F := Ideal) m c = lossR (m ((c.tc : Thread nD τ).loc main_arg0)) (m ((c.tc : Thread nD τ).loc main_arg1)) := by
  unfold Cert.ReferenceIdeal.Value.res_main_v52
  rfl

end Cert.Proof.Loss.Ref

end
-- ==== Proof.Sums.lean ====
/-
  The kernel's two results over the extended reals, as sums over the samples, and the equation with the reference: the
  lanes' terms are the samples' terms, the thirty-two rows of sixteen lanes add up to the sum over all samples, and the
  second sum is the number of labels that are zero.
-/
module

public import proofs.«01_k».proof.Proof.Reference
public import Idealize.ShloMosaic.Lib.IdealHost
public import Idealize.ShloMosaic.Lib.Routing.Ops

@[expose] public section

noncomputable section

namespace Cert.Proof.Loss

open Cert.KernelIdeal Cert.KernelIdeal.Gen
open Idealize.ShloMosaic Idealize.ShloMosaic.ValueIdx
open scoped BigOperators

/-! ## One sample's term -/

/-- The term the kernel adds for a sample of sign `s` and score `g`. -/
def termP (s g : EReal) : EReal := Ideal.div 1 (1 + Ideal.exp (0 - s * g))

/-- For a label of one the reference's term is the kernel's at sign one. -/
theorem term_one (g : EReal) : (1 : EReal) * Ideal.logistic g + (1 - 1) * (1 - Ideal.logistic g) = termP 1 g := by
  have h : (1 : EReal) - 1 = 0 := by
    rw [← EReal.coe_one, ← EReal.coe_sub, sub_self, EReal.coe_zero]
  rw [h, zero_mul, add_zero, one_mul, termP, one_mul, zero_sub, Ideal.logistic]

/-- One less a logistic is the logistic of the opposite, at the infinities too. -/
theorem one_sub_logistic (g : EReal) : 1 - Ideal.logistic g = Ideal.logistic (-g) := by
  induction g using EReal.rec with
  | bot => rw [Ideal.logistic_bot, EReal.neg_bot, Ideal.logistic_top, sub_zero]
  | top =>
    rw [Ideal.logistic_top, EReal.neg_top, Ideal.logistic_bot, ← EReal.coe_one, ← EReal.coe_sub, sub_self, EReal.coe_zero]
  | coe r =>
    rw [← EReal.coe_neg, Ideal.logistic_coe, Ideal.logistic_coe, ← EReal.coe_one, ← EReal.coe_sub, EReal.coe_eq_coe_iff,
      Real.exp_neg, neg_neg]
    have := Real.exp_pos r
    field_simp
    ring

/-- For a label of zero the reference's term is the kernel's at sign minus one. -/
theorem term_zero (g : EReal) : (0 : EReal) * Ideal.logistic g + (1 - 0) * (1 - Ideal.logistic g) = termP (-1) g := by
  rw [zero_mul, zero_add, sub_zero, one_mul, one_sub_logistic, termP, Ideal.logistic, neg_neg, neg_mul, one_mul, zero_sub, neg_neg]

/-- The pattern of one half. -/
theorem ofBits_half : Ideal.ofBits .f32 0x3F000000#32 = (((1 : ℝ) / 2 : ℝ) : EReal) := by
  simp [Ideal.ofBits, Ideal.ieee, -EReal.coe_mul]; norm_num

/-! ## The lanes' accumulators as sums -/

theorem pay4_apply (j : S16.Idx) : k0_pay4 (F := Ideal) j = 0 := by
  show Ideal.ofBits .f32 0x00000000#32 = 0
  exact Ideal.ofBits_zero_f32

theorem pay6_apply (a g s : S16.Idx → EReal) (j : S16.Idx) : k0_pay6 (F := Ideal) a g s j = a j + termP (s j) (g j) := by
  simp only [k0_pay6, k0_pay5, shapeCast_self]
  show a j + Ideal.div (Ideal.ofBits .f32 0x3F800000#32) (Ideal.ofBits .f32 0x3F800000#32 + Ideal.exp (Ideal.ofBits .f32 0x00000000#32 - s j * g j)) = _
  rw [Ideal.ofBits_one_f32, Ideal.ofBits_zero_f32, termP]

theorem pay7_apply (a s : S16.Idx → EReal) (j : S16.Idx) : k0_pay7 (F := Ideal) a s j = a j + (1 - s j) * (((1 : ℝ) / 2 : ℝ) : EReal) := by
  simp only [k0_pay7, k0_pay5, shapeCast_self]
  show a j + (Ideal.ofBits .f32 0x3F800000#32 - s j) * Ideal.ofBits .f32 0x3F000000#32 = _
  rw [Ideal.ofBits_one_f32, ofBits_half]

variable (pk : S262144.Idx → BitVec 32) (tb : S67108864.Idx → EReal)

/-- The packed word of sample `n`. -/
def wordAt (n : ℕ) : BitVec 32 := pk (ix1 (Fin.ofNat 262144 n))
/-- What the kernel adds to its first accumulators for sample `n` … -/
def kP (n : ℕ) : EReal := termP (sgnW Ideal (wordAt pk n)) (tb (ix1 (Fin.ofNat 67108864 (addrW (wordAt pk n)).toNat)))
/-- … and to its second. -/
def kN (n : ℕ) : EReal := (1 - sgnW Ideal (wordAt pk n)) * (((1 : ℝ) / 2 : ℝ) : EReal)

/-- Lane `j` of trip `t` of task `w` holds the word of sample `8192 w + 16 t + j`. -/
theorem lab_row (w t : ℕ) (ht : t < 512) (j : S16.Idx) :
    lab pk w (ix1 (Fin.ofNat 8192 (16 * t + (j 0).val))) = wordAt pk (8192 * w + 16 * t + (j 0).val) := by
  have hj : (j 0).val < 16 := (j 0).isLt
  have e : (Fin.ofNat 8192 (16 * t + (j 0).val)).val = 16 * t + (j 0).val := Nat.mod_eq_of_lt (by omega)
  show pk (ix1 (Fin.ofNat 262144 (8192 * w + (Fin.ofNat 8192 (16 * t + (j 0).val)).val))) = _
  rw [e, ← Nat.add_assoc]
  rfl

/-- Before trip `t`, the accumulators of task `w` hold the sums of the terms of the samples of the trips before. -/
theorem accs_eq (w : ℕ) (j : S16.Idx) : ∀ t : ℕ, t ≤ 512 →
    (accs (F := Ideal) pk tb w t).1 j = ∑ u ∈ Finset.range t, kP pk tb (8192 * w + 16 * u + (j 0).val)
      ∧ (accs (F := Ideal) pk tb w t).2 j = ∑ u ∈ Finset.range t, kN pk (8192 * w + 16 * u + (j 0).val)
  | 0, _ => ⟨pay4_apply j, pay4_apply j⟩
  | t + 1, ht => by
    obtain ⟨h1, h2⟩ := accs_eq w j t (by omega)
    have hl := lab_row pk w t (by omega) j
    rw [Finset.sum_range_succ, Finset.sum_range_succ, ← h1, ← h2]
    constructor
    · refine (pay6_apply _ _ _ j).trans ?_
      simp only [row, got, sgn, addr, hl]
      rfl
    · refine (pay7_apply _ _ j).trans ?_
      simp only [row, sgn, hl]
      rfl

/-! ## The rows and lanes together -/

/-- A sum over `a b` numbers, taken in blocks of `b`. -/
theorem sum_range_blocks (f : ℕ → EReal) (b : ℕ) : ∀ a : ℕ,
    ∑ n ∈ Finset.range (a * b), f n = ∑ i ∈ Finset.range a, ∑ j ∈ Finset.range b, f (b * i + j)
  | 0 => by simp
  | a + 1 => by
    rw [Finset.sum_range_succ, ← sum_range_blocks f b a, Nat.succ_mul, Finset.sum_range_add, Nat.mul_comm b a]

/-- The sum over tasks, lanes and trips is the sum over the samples. -/
theorem sum_samples (f : ℕ → EReal) :
    ∑ x : S32x16.Idx, ∑ u ∈ Finset.range 512, f (8192 * (x 0).val + 16 * u + (x 1).val) = ∑ n ∈ Finset.range 262144, f n := by
  rw [sum_idx2, show (262144 : ℕ) = 32 * 8192 from rfl, sum_range_blocks f 8192 32, Finset.sum_range]
  refine Finset.sum_congr rfl fun w _ => ?_
  rw [show (8192 : ℕ) = 512 * 16 from rfl, sum_range_blocks (fun n => f (512 * 16 * w.val + n)) 16 512, Finset.sum_comm]
  refine Finset.sum_congr rfl fun u _ => ?_
  rw [Finset.sum_range]
  refine Finset.sum_congr rfl fun j _ => ?_
  rw [← Nat.add_assoc]

/-- The first result adds up to the sum of the samples' terms … -/
theorem sum_outP : ∑ x : S32x16.Idx, outP (F := Ideal) pk tb x = ∑ n ∈ Finset.range 262144, kP pk tb n := by
  rw [← sum_samples]
  refine Finset.sum_congr rfl fun x _ => ?_
  simp only [outP, k0_pay8, shapeCast_self]
  exact (accs_eq pk tb (x 0).val (ix1 (x 1)) 512 le_rfl).1

/-- … and the second to the sum of the second terms. -/
theorem sum_outN : ∑ x : S32x16.Idx, outN (F := Ideal) pk tb x = ∑ n ∈ Finset.range 262144, kN pk n := by
  rw [← sum_samples]
  refine Finset.sum_congr rfl fun x _ => ?_
  simp only [outN, k0_pay9, shapeCast_self]
  exact (accs_eq pk tb (x 0).val (ix1 (x 1)) 512 le_rfl).2

/-! ## The terms of a sample in range -/

section
variable (x : S262144x4.Idx → BitVec 32) (hx : InRange x) (tab : S16x2048x2048.Idx → EReal)

/-- A label in range is zero or one. -/
theorem lab_cases (r : Fin 262144) (hx : InRange x) : x (ix2 r (3 : Fin 4)) = 0#32 ∨ x (ix2 r (3 : Fin 4)) = 1#32 := by
  rcases (by have := hx.lab r; omega : (x (ix2 r (3 : Fin 4))).toNat = 0 ∨ (x (ix2 r (3 : Fin 4))).toNat = 1) with h | h
  · exact .inl (BitVec.eq_of_toNat_eq h)
  · exact .inr (BitVec.eq_of_toNat_eq h)

theorem wordAt_packT (r : Fin 262144) : wordAt (packT x) r.val
    = packW (x (ix2 r (0 : Fin 4))) (x (ix2 r (1 : Fin 4))) (x (ix2 r (2 : Fin 4))) (x (ix2 r (3 : Fin 4))) := by
  rw [← packT_apply]
  exact congrArg (fun q => packT x (ix1 q)) (Fin.ext (Nat.mod_eq_of_lt r.isLt))

include hx

/-- The sign of a sample of label zero is minus one … -/
theorem sgn_zero (r : Fin 262144) (h : x (ix2 r (3 : Fin 4)) = 0#32) : sgnW Ideal (wordAt (packT x) r.val) = -1 := by
  rw [sgnW, wordAt_packT, sgnI_packW (hx.e1 r) (hx.rel r) (hx.e2 r) (hx.lab r), if_pos h]
  show (((BitVec.ofInt 32 (-1)).toInt : ℝ) : EReal) = -1
  rw [show (BitVec.ofInt 32 (-1)).toInt = -1 by decide]
  norm_num

/-- … and of label one, one. -/
theorem sgn_one (r : Fin 262144) (h : x (ix2 r (3 : Fin 4)) = 1#32) : sgnW Ideal (wordAt (packT x) r.val) = 1 := by
  rw [sgnW, wordAt_packT, sgnI_packW (hx.e1 r) (hx.rel r) (hx.e2 r) (hx.lab r), if_neg (by rw [h]; decide)]
  show (((1#32 : BitVec 32).toInt : ℝ) : EReal) = 1
  rw [show (1#32 : BitVec 32).toInt = 1 by decide]
  norm_num

/-- The score the kernel gathers for a sample is the one the reference gathers. -/
theorem score_eq (r : Fin 262144) :
    (shapeCast S67108864 tab shapeCasts_S16x2048x2048_S67108864) (ix1 (Fin.ofNat 67108864 (addrW (wordAt (packT x) r.val)).toNat))
      = Host.gather Cert.ReferenceIdeal.gather_S16x2048x2048_S262144x3_S262144_n_012_n_n_012_1_111 tab (Ref.idxT x) (ix1 r) := by
  have b0 := hx.e1 r
  have b1 := hx.rel r
  have b2 := hx.e2 r
  have ha : (addrW (wordAt (packT x) r.val)).toNat = (x (ix2 r (1 : Fin 4))).toNat * 4194304 + (x (ix2 r (0 : Fin 4))).toNat * 2048 + (x (ix2 r (2 : Fin 4))).toNat := by
    rw [wordAt_packT, addrW_packW b0 b1 b2 (hx.lab r)]
  let p : S16x2048x2048.Idx := fun a => match a with
    | ⟨0, _⟩ => (⟨(x (ix2 r (1 : Fin 4))).toNat, b1⟩ : Fin 16)
    | ⟨1, _⟩ => (⟨(x (ix2 r (0 : Fin 4))).toNat, b0⟩ : Fin 2048)
    | ⟨2, _⟩ => (⟨(x (ix2 r (2 : Fin 4))).toNat, b2⟩ : Fin 2048)
  rw [Ref.score_apply x hx r tab p rfl rfl rfl]
  refine shapeCast_apply tab _ _ p ?_
  rw [Shape.rowMajor_val_three, Shape.rowMajor_val_one]
  show ((x (ix2 r (1 : Fin 4))).toNat * 2048 + (x (ix2 r (0 : Fin 4))).toNat) * 2048 + (x (ix2 r (2 : Fin 4))).toNat
    = (addrW (wordAt (packT x) r.val)).toNat % 67108864
  omega

/-- The reference's term of a sample is the kernel's. -/
theorem perT_eq (r : Fin 262144) :
    Ref.perT tab x (ix1 r) = kP (packT x) (shapeCast S67108864 tab shapeCasts_S16x2048x2048_S67108864) r.val := by
  rw [kP, score_eq x hx tab r]
  generalize hg : Host.gather Cert.ReferenceIdeal.gather_S16x2048x2048_S262144x3_S262144_n_012_n_n_012_1_111 tab (Ref.idxT x) (ix1 r) = g
  have e : Ref.perT tab x (ix1 r) = (((x (ix2 r (3 : Fin 4))).toInt : ℝ) : EReal) * Ideal.logistic g
      + (1 - (((x (ix2 r (3 : Fin 4))).toInt : ℝ) : EReal)) * (1 - Ideal.logistic g) := by
    rw [← hg, ← Ref.col_at x 3 slices_S262144x4_S262144x1_0_3 r, Ideal.logistic, ← Ideal.ofBits_one_f32]
    rfl
  rw [e]
  rcases lab_cases x r hx with h | h
  · rw [sgn_zero x hx r h, h, show (0#32 : BitVec 32).toInt = 0 by decide, Int.cast_zero, EReal.coe_zero]
    exact term_zero g
  · rw [sgn_one x hx r h, h, show (1#32 : BitVec 32).toInt = 1 by decide, Int.cast_one, EReal.coe_one]
    exact term_one g

/-- The kernel's second term of a sample is one where its label is zero, else zero. -/
theorem kN_eq (r : Fin 262144) : kN (packT x) r.val = (((if x (ix2 r (3 : Fin 4)) = 0#32 then 1 else 0 : ℕ) : ℝ) : EReal) := by
  rcases lab_cases x r hx with h | h
  · rw [kN, sgn_zero x hx r h, if_pos h, show (1 : EReal) - (-1) = ((2 : ℝ) : EReal) by rw [sub_eq_add_neg, neg_neg, ← EReal.coe_one, ← EReal.coe_add]; norm_num, ← EReal.coe_mul]
    norm_num
  · rw [kN, sgn_one x hx r h, if_neg (by rw [h]; decide), ← EReal.coe_one, ← EReal.coe_sub, ← EReal.coe_mul]
    norm_num

end

end Cert.Proof.Loss

end
-- ==== Proof.Algebra.lean ====
/-
  The equation of the kernel and the reference over the extended reals: the two sums agree, so the two losses do, and
  both programs run to that one loss.
-/
module

public import proofs.«01_k».proof.Proof.Frames
public import proofs.«01_k».proof.Proof.Sums
public import Idealize.ShloMosaic.Lib.ValueIdxRank1

@[expose] public section

noncomputable section

namespace Cert.Proof.Loss

open Cert.KernelIdeal Cert.KernelIdeal.Gen
open Idealize.ShloMosaic Idealize.ShloMosaic.ValueIdx
open scoped BigOperators

section
variable (x : S262144x4.Idx → BitVec 32) (hx : InRange x) (tab : S16x2048x2048.Idx → EReal)

/-- The table as the kernel reads it, in one row. -/
abbrev flatT : S67108864.Idx → EReal := shapeCast S67108864 tab shapeCasts_S16x2048x2048_S67108864

include hx in
/-- The sum of the samples' terms: the kernel's first result and the reference's agree. -/
theorem sum_terms (j : S_.Idx) :
    Host.reduceAdd (outP (F := Ideal) (packT x) (flatT tab)) (constant S_ .f32 0x00000000#32) reducesTo_S32x16_S_d0_1 h_S_ j
      = Host.reduceAdd (Ref.perT tab x) (constant S_ .f32 0x00000000#32) Cert.ReferenceIdeal.Gen.reducesTo_S262144_S_d0 Cert.ReferenceIdeal.Gen.h_S_ j := by
  rw [hostReduceAdd_apply, hostReduceAdd_apply, Ideal.hostReduceAdd_total _ (fun b => b.elim0), Ideal.hostReduceAdd_total _ (fun b => b.elim0), sum_outP]
  refine congrArg _ ?_
  rw [← Equiv.sum_comp idxEquiv1.symm, Finset.sum_range]
  exact Finset.sum_congr rfl fun r _ => (perT_eq x hx tab r).symm

/-- One where the sample's label is zero, else zero. -/
def zeroAt (n : ℕ) : ℕ := if x (ix2 (Fin.ofNat 262144 n) (3 : Fin 4)) = 0#32 then 1 else 0

theorem zeroAt_val (r : Fin 262144) : zeroAt x r.val = if x (ix2 r (3 : Fin 4)) = 0#32 then 1 else 0 := by
  have e : Fin.ofNat 262144 r.val = r := Fin.ext (Nat.mod_eq_of_lt r.isLt)
  rw [zeroAt, e]

/-- Among the first `N` samples at most `N` labels are zero. -/
theorem count_le : ∀ N : ℕ, ((List.range N).map (zeroAt x)).sum ≤ N
  | 0 => by simp
  | N + 1 => by
    have h := count_le N
    have h1 : zeroAt x N ≤ 1 := by
      unfold zeroAt
      split <;> omega
    rw [List.range_succ, List.map_append, List.sum_append, List.map_singleton, List.sum_singleton]
    omega

/-- The count as an extended real is the sum of its terms. -/
theorem count_cast : ∀ N : ℕ, ((((List.range N).map (zeroAt x)).sum : ℕ) : ℝ) = ∑ n ∈ Finset.range N, ((zeroAt x n : ℕ) : ℝ)
  | 0 => by simp
  | N + 1 => by
    rw [List.range_succ, List.map_append, List.sum_append, List.map_singleton, List.sum_singleton, Nat.cast_add, count_cast N,
      Finset.sum_range_succ]

/-- A finite sum of reals, taken among the extended reals. -/
theorem coe_sum_range (f : ℕ → ℝ) : ∀ N : ℕ, ((∑ n ∈ Finset.range N, f n : ℝ) : EReal) = ∑ n ∈ Finset.range N, ((f n : ℝ) : EReal)
  | 0 => by simp
  | N + 1 => by rw [Finset.sum_range_succ, Finset.sum_range_succ, EReal.coe_add, coe_sum_range f N]

include hx in
/-- The reference's mark of a zero label. -/
theorem negT_apply (r : Fin 262144) : Ref.negT x (ix1 r) = BitVec.ofNat 32 (zeroAt x r.val) := by
  have e : Ref.negT x (ix1 r) = (BitVec.ofBool (decide ((((x (ix2 r (3 : Fin 4))).toInt : ℝ) : EReal) = Ideal.ofBits .f32 0x00000000#32))).setWidth 32 := by
    rw [← Ref.col_at x 3 slices_S262144x4_S262144x1_0_3 r]
    rfl
  rw [e, zeroAt_val, Ideal.ofBits_zero_f32]
  rcases lab_cases x r hx with h | h
  · rw [h, if_pos rfl, show (0#32 : BitVec 32).toInt = 0 by decide, Int.cast_zero, EReal.coe_zero, decide_eq_true rfl]
    rfl
  · rw [h, if_neg (by decide), show (1#32 : BitVec 32).toInt = 1 by decide, Int.cast_one, EReal.coe_one, decide_eq_false one_ne_zero]
    rfl

include hx in
/-- The number of zero labels: the kernel's second result adds up to the reference's count. -/
theorem sum_zeros (j : S_.Idx) :
    Host.reduceAdd (outN (F := Ideal) (packT x) (flatT tab)) (constant S_ .f32 0x00000000#32) reducesTo_S32x16_S_d0_1 h_S_ j
      = sitofp (F := Ideal) .f32 (Host.reduce IntOp.addi (Ref.negT x) (constantI S_ 32 0#32) Cert.ReferenceIdeal.Gen.reducesTo_S262144_S_d0 Cert.ReferenceIdeal.Gen.h_S_) j := by
  have hj : j = ix0 := funext fun b => b.elim0
  have hr := Routing.reduce_sum (Ref.negT x) (zeroAt x) (negT_apply x hx) Cert.ReferenceIdeal.Gen.reducesTo_S262144_S_d0 Cert.ReferenceIdeal.Gen.h_S_
  have hc := count_le x 262144
  have hR : sitofp (F := Ideal) .f32 (Host.reduce IntOp.addi (Ref.negT x) (constantI S_ 32 0#32) Cert.ReferenceIdeal.Gen.reducesTo_S262144_S_d0 Cert.ReferenceIdeal.Gen.h_S_) j
      = (((BitVec.ofNat 32 ((List.range 262144).map (zeroAt x)).sum).toInt : ℝ) : EReal) := by
    rw [hj, ← hr]
    rfl
  have ht : (BitVec.ofNat 32 ((List.range 262144).map (zeroAt x)).sum).toInt = (((List.range 262144).map (zeroAt x)).sum : ℕ) := by
    generalize ((List.range 262144).map (zeroAt x)).sum = n at hc
    rw [BitVec.toInt_eq_toNat_of_lt (by rw [BitVec.toNat_ofNat]; omega), BitVec.toNat_ofNat, Nat.mod_eq_of_lt (by omega)]
  rw [hR, ht, Int.cast_natCast, count_cast, coe_sum_range, hostReduceAdd_apply, Ideal.hostReduceAdd_total _ (fun b => b.elim0), sum_outN]
  rw [show (constant (F := Ideal) S_ .f32 0x00000000#32) (Shape.Idx.first h_S_) = (0 : EReal) from Ideal.ofBits_zero_f32, zero_add]
  rw [Finset.sum_range, Finset.sum_range]
  refine Finset.sum_congr rfl fun r _ => ?_
  rw [kN_eq x hx r, zeroAt_val]

include hx in
/-- The two losses are one. -/
theorem loss_eq : lossT (F := Ideal) (outP (packT x) (flatT tab)) (outN (packT x) (flatT tab)) = Ref.lossR tab x := by
  have h1 := funext (sum_terms x hx tab)
  have h2 := funext (sum_zeros x hx tab)
  unfold lossT Ref.lossR
  rw [h1, h2]

end

/-- From states that agree on the arguments, with every index in range, the kernel and the reference both run to one
    loss and leave their arguments as they were. -/
theorem algebraic : Cert.algebraic_KernelIdeal_ReferenceIdeal := by
  intro m g m' g' hpre harg
  refine ⟨fun c => lossT (outP (pkM m c) (tbM m c)) (outN (pkM m c) (tbM m c)),
    (θ_run Cert.KernelIdeal.defs _ _).mono (fun r h => h.1) (run_read (F := Ideal) m g (preOK_ideal m hpre)),
    (θ_run Cert.ReferenceIdeal.defs _ _).mono (fun r h c => ⟨(h c).1.trans ?_, (h c).2⟩)
      (Cert.ReferenceIdeal.Value.run (F := Ideal) m' g')⟩
  have hl := loss_eq (m (c, Proc.devRef .tc main_arg1)) (inRange_of_pre _ _ (hpre c)) (m (c, Proc.devRef .tc main_arg0))
  rw [Ref.res_eq, (harg c).1, (harg c).2]
  show _ = lossT (outP (pkM m c) (tbM m c)) (outN (pkM m c) (tbM m c))
  rw [pkM_eq, tbM_eq]
  exact hl.symm

end Cert.Proof.Loss

end
-- ==== Proof.lean ====
/-
  The certificate's proof. The kernel packs each sample's label row into one word; thirty-two tasks of the SparseCore each
  unpack 8192 of them, gather the named scores from the table and add up their terms; the host adds the partial sums and
  forms the loss. The modules, in order:
  Values — what each buffer comes to hold; Setup, Windows — the call's resources and how the tasks share them; Landed, Tile —
  one task's run; Host, Run — the host's operations around the call and the whole run; Words — the packed words' bounds, from
  the precondition; Frames — the four frame claims; Reference — the reference's value read at a sample; Sums, Algebra — the
  equation over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Algebra

@[expose] public section

noncomputable section

namespace Cert.Proof

/-- Every claim of the certificate. No operation was rewritten, so the claim that the idealization preserves the program
    has nothing to show. -/
theorem claim : Cert.Claim :=
  ⟨Cert.Kernel.Gen.facts, Cert.KernelIdeal.Gen.facts, Cert.ReferenceIdeal.Gen.facts, Cert.Pre_in_range.Gen.facts,
    Loss.frame_kernel, Loss.frame_ideal, Loss.frame_reference, Loss.frame_reference_pre, trivial, Loss.algebraic⟩

end Cert.Proof

end
